-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1)
      ∧ r.2.mem ((c.tc : Thread Cert.KernelU.nD Cert.KernelU.τ).loc Cert.KernelU.main_arg2) = m ((c.tc : Thread Cert.KernelU.nD Cert.KernelU.τ).loc Cert.KernelU.main_arg2))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3)
      ∧ r.2.mem ((c.tc : Thread Cert.KernelN.nD Cert.KernelN.τ).loc Cert.KernelN.main_arg4) = m ((c.tc : Thread Cert.KernelN.nD Cert.KernelN.τ).loc Cert.KernelN.main_arg4)
      ∧ r.2.mem ((c.tc : Thread Cert.KernelN.nD Cert.KernelN.τ).loc Cert.KernelN.main_arg5) = m ((c.tc : Thread Cert.KernelN.nD Cert.KernelN.τ).loc Cert.KernelN.main_arg5))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
      ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
      ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3)
      ∧ r.2.mem ((c.tc : Thread Cert.ReferenceNIdeal.nD Cert.ReferenceNIdeal.τ).loc Cert.ReferenceNIdeal.main_arg4) = m ((c.tc : Thread Cert.ReferenceNIdeal.nD Cert.ReferenceNIdeal.τ).loc Cert.ReferenceNIdeal.main_arg4)
      ∧ r.2.mem ((c.tc : Thread Cert.ReferenceNIdeal.nD Cert.ReferenceNIdeal.τ).loc Cert.ReferenceNIdeal.main_arg5) = m ((c.tc : Thread Cert.ReferenceNIdeal.nD Cert.ReferenceNIdeal.τ).loc Cert.ReferenceNIdeal.main_arg5))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4)
      ∧ r.2.mem ((c.tc : Thread Cert.KernelL.nD Cert.KernelL.τ).loc Cert.KernelL.main_arg5) = m ((c.tc : Thread Cert.KernelL.nD Cert.KernelL.τ).loc Cert.KernelL.main_arg5)
      ∧ r.2.mem ((c.tc : Thread Cert.KernelL.nD Cert.KernelL.τ).loc Cert.KernelL.main_arg6) = m ((c.tc : Thread Cert.KernelL.nD Cert.KernelL.τ).loc Cert.KernelL.main_arg6)
      ∧ r.2.mem ((c.tc : Thread Cert.KernelL.nD Cert.KernelL.τ).loc Cert.KernelL.main_arg7) = m ((c.tc : Thread Cert.KernelL.nD Cert.KernelL.τ).loc Cert.KernelL.main_arg7)
      ∧ r.2.mem ((c.tc : Thread Cert.KernelL.nD Cert.KernelL.τ).loc Cert.KernelL.main_arg8) = m ((c.tc : Thread Cert.KernelL.nD Cert.KernelL.τ).loc Cert.KernelL.main_arg8)
      ∧ r.2.mem ((c.tc : Thread Cert.KernelL.nD Cert.KernelL.τ).loc Cert.KernelL.main_arg9) = m ((c.tc : Thread Cert.KernelL.nD Cert.KernelL.τ).loc Cert.KernelL.main_arg9))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
      ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5)
      ∧ r.2.mem ((c.tc : Thread Cert.KernelLIdeal.nD Cert.KernelLIdeal.τ).loc Cert.KernelLIdeal.main_arg6) = m ((c.tc : Thread Cert.KernelLIdeal.nD Cert.KernelLIdeal.τ).loc Cert.KernelLIdeal.main_arg6)
      ∧ r.2.mem ((c.tc : Thread Cert.KernelLIdeal.nD Cert.KernelLIdeal.τ).loc Cert.KernelLIdeal.main_arg7) = m ((c.tc : Thread Cert.KernelLIdeal.nD Cert.KernelLIdeal.τ).loc Cert.KernelLIdeal.main_arg7)
      ∧ r.2.mem ((c.tc : Thread Cert.KernelLIdeal.nD Cert.KernelLIdeal.τ).loc Cert.KernelLIdeal.main_arg8) = m ((c.tc : Thread Cert.KernelLIdeal.nD Cert.KernelLIdeal.τ).loc Cert.KernelLIdeal.main_arg8)
      ∧ r.2.mem ((c.tc : Thread Cert.KernelLIdeal.nD Cert.KernelLIdeal.τ).loc Cert.KernelLIdeal.main_arg9) = m ((c.tc : Thread Cert.KernelLIdeal.nD Cert.KernelLIdeal.τ).loc Cert.KernelLIdeal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)
      ∧ m' ((c.tc : Thread Cert.ReferenceUIdeal.nD Cert.ReferenceUIdeal.τ).loc Cert.ReferenceUIdeal.main_arg2) = m ((c.tc : Thread Cert.KernelUIdeal.nD Cert.KernelUIdeal.τ).loc Cert.KernelUIdeal.main_arg2)) →
    ∃ (v0 : (c : Dev Cert.KernelUIdeal.nD) → Buf (Elt Ideal) ((c.tc : Thread Cert.KernelUIdeal.nD Cert.KernelUIdeal.τ).loc Cert.KernelUIdeal.main_v0_0)) (v1 : (c : Dev Cert.KernelUIdeal.nD) → Buf (Elt Ideal) ((c.tc : Thread Cert.KernelUIdeal.nD Cert.KernelUIdeal.τ).loc Cert.KernelUIdeal.main_v0_1)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v0_0) = v0 c
          ∧ r.2.mem ((c.tc : Thread Cert.KernelUIdeal.nD Cert.KernelUIdeal.τ).loc Cert.KernelUIdeal.main_v0_1) = v1 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
          ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v2) = v0 c
          ∧ r.2.mem ((c.tc : Thread Cert.ReferenceUIdeal.nD Cert.ReferenceUIdeal.τ).loc Cert.ReferenceUIdeal.main_v4) = v1 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1)
          ∧ r.2.mem ((c.tc : Thread Cert.ReferenceUIdeal.nD Cert.ReferenceUIdeal.τ).loc Cert.ReferenceUIdeal.main_arg2) = m' ((c.tc : Thread Cert.ReferenceUIdeal.nD Cert.ReferenceUIdeal.τ).loc Cert.ReferenceUIdeal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v0_0)) (v1 : (c : Dev Cert.KernelQIdeal.nD) → Buf (Elt Ideal) ((c.tc : Thread Cert.KernelQIdeal.nD Cert.KernelQIdeal.τ).loc Cert.KernelQIdeal.main_v0_1)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0_0) = v0 c
          ∧ r.2.mem ((c.tc : Thread Cert.KernelQIdeal.nD Cert.KernelQIdeal.τ).loc Cert.KernelQIdeal.main_v0_1) = v1 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v3) = v0 c
          ∧ r.2.mem ((c.tc : Thread Cert.ReferenceQIdeal.nD Cert.ReferenceQIdeal.τ).loc Cert.ReferenceQIdeal.main_v5) = v1 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)) →
    ∃ (v0 : (c : Dev Cert.KernelGIdeal.nD) → Buf (Elt Ideal) ((c.tc : Thread Cert.KernelGIdeal.nD Cert.KernelGIdeal.τ).loc Cert.KernelGIdeal.main_v0_0)) (v1 : (c : Dev Cert.KernelGIdeal.nD) → Buf (Elt Ideal) ((c.tc : Thread Cert.KernelGIdeal.nD Cert.KernelGIdeal.τ).loc Cert.KernelGIdeal.main_v0_1)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v0_0) = v0 c
          ∧ r.2.mem ((c.tc : Thread Cert.KernelGIdeal.nD Cert.KernelGIdeal.τ).loc Cert.KernelGIdeal.main_v0_1) = v1 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v3) = v0 c
          ∧ r.2.mem ((c.tc : Thread Cert.ReferenceGIdeal.nD Cert.ReferenceGIdeal.τ).loc Cert.ReferenceGIdeal.main_v5) = v1 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)) →
    ∃ (v0 : (c : Dev Cert.KernelMIdeal.nD) → Buf (Elt Ideal) ((c.tc : Thread Cert.KernelMIdeal.nD Cert.KernelMIdeal.τ).loc Cert.KernelMIdeal.main_v0_0)) (v1 : (c : Dev Cert.KernelMIdeal.nD) → Buf (Elt Ideal) ((c.tc : Thread Cert.KernelMIdeal.nD Cert.KernelMIdeal.τ).loc Cert.KernelMIdeal.main_v0_1)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v0_0) = v0 c
          ∧ r.2.mem ((c.tc : Thread Cert.KernelMIdeal.nD Cert.KernelMIdeal.τ).loc Cert.KernelMIdeal.main_v0_1) = v1 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v8) = v0 c
          ∧ r.2.mem ((c.tc : Thread Cert.ReferenceMIdeal.nD Cert.ReferenceMIdeal.τ).loc Cert.ReferenceMIdeal.main_v10) = v1 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)
      ∧ m' ((c.tc : Thread Cert.ReferenceNIdeal.nD Cert.ReferenceNIdeal.τ).loc Cert.ReferenceNIdeal.main_arg4) = m ((c.tc : Thread Cert.KernelNIdeal.nD Cert.KernelNIdeal.τ).loc Cert.KernelNIdeal.main_arg4)
      ∧ m' ((c.tc : Thread Cert.ReferenceNIdeal.nD Cert.ReferenceNIdeal.τ).loc Cert.ReferenceNIdeal.main_arg5) = m ((c.tc : Thread Cert.KernelNIdeal.nD Cert.KernelNIdeal.τ).loc Cert.KernelNIdeal.main_arg5)) →
    ∃ (v0 : (c : Dev Cert.KernelNIdeal.nD) → Buf (Elt Ideal) ((c.tc : Thread Cert.KernelNIdeal.nD Cert.KernelNIdeal.τ).loc Cert.KernelNIdeal.main_v2_0)) (v1 : (c : Dev Cert.KernelNIdeal.nD) → Buf (Elt Ideal) ((c.tc : Thread Cert.KernelNIdeal.nD Cert.KernelNIdeal.τ).loc Cert.KernelNIdeal.main_v2_1)) (v2 : (c : Dev Cert.KernelNIdeal.nD) → Buf (Elt Ideal) ((c.tc : Thread Cert.KernelNIdeal.nD Cert.KernelNIdeal.τ).loc Cert.KernelNIdeal.main_v2_2)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v2_0) = v0 c
          ∧ r.2.mem ((c.tc : Thread Cert.KernelNIdeal.nD Cert.KernelNIdeal.τ).loc Cert.KernelNIdeal.main_v2_1) = v1 c
          ∧ r.2.mem ((c.tc : Thread Cert.KernelNIdeal.nD Cert.KernelNIdeal.τ).loc Cert.KernelNIdeal.main_v2_2) = v2 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
          ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
          ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v24) = v0 c
          ∧ r.2.mem ((c.tc : Thread Cert.ReferenceNIdeal.nD Cert.ReferenceNIdeal.τ).loc Cert.ReferenceNIdeal.main_v25) = v1 c
          ∧ r.2.mem ((c.tc : Thread Cert.ReferenceNIdeal.nD Cert.ReferenceNIdeal.τ).loc Cert.ReferenceNIdeal.main_v27) = v2 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3)
          ∧ r.2.mem ((c.tc : Thread Cert.ReferenceNIdeal.nD Cert.ReferenceNIdeal.τ).loc Cert.ReferenceNIdeal.main_arg4) = m' ((c.tc : Thread Cert.ReferenceNIdeal.nD Cert.ReferenceNIdeal.τ).loc Cert.ReferenceNIdeal.main_arg4)
          ∧ r.2.mem ((c.tc : Thread Cert.ReferenceNIdeal.nD Cert.ReferenceNIdeal.τ).loc Cert.ReferenceNIdeal.main_arg5) = m' ((c.tc : Thread Cert.ReferenceNIdeal.nD Cert.ReferenceNIdeal.τ).loc Cert.ReferenceNIdeal.main_arg5))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)) →
    ∃ (v0 : (c : Dev Cert.KernelBIdeal.nD) → Buf (Elt Ideal) ((c.tc : Thread Cert.KernelBIdeal.nD Cert.KernelBIdeal.τ).loc Cert.KernelBIdeal.main_v0)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v0) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v9) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)) →
    ∃ (v0 : (c : Dev Cert.KernelOIdeal.nD) → Buf (Elt Ideal) ((c.tc : Thread Cert.KernelOIdeal.nD Cert.KernelOIdeal.τ).loc Cert.KernelOIdeal.main_v2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v2) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v19) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)) →
    ∃ (v0 : (c : Dev Cert.KernelDIdeal.nD) → Buf (Elt Ideal) ((c.tc : Thread Cert.KernelDIdeal.nD Cert.KernelDIdeal.τ).loc Cert.KernelDIdeal.main_v2)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v2) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v3) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v1) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0))

def preserves_KernelL_KernelLIdeal : Prop :=
  True

def Claim : Prop :=
  ∃ (hKernel : Cert.Kernel.Facts) (hKernelIdeal : Cert.KernelIdeal.Facts) (hReferenceIdeal : Cert.ReferenceIdeal.Facts) (hKernelU : Cert.KernelU.Facts) (hKernelUIdeal : Cert.KernelUIdeal.Facts) (hReferenceUIdeal : Cert.ReferenceUIdeal.Facts) (hKernelQ : Cert.KernelQ.Facts) (hKernelQIdeal : Cert.KernelQIdeal.Facts) (hReferenceQIdeal : Cert.ReferenceQIdeal.Facts) (hKernelG : Cert.KernelG.Facts) (hKernelGIdeal : Cert.KernelGIdeal.Facts) (hReferenceGIdeal : Cert.ReferenceGIdeal.Facts) (hKernelM : Cert.KernelM.Facts) (hKernelMIdeal : Cert.KernelMIdeal.Facts) (hReferenceMIdeal : Cert.ReferenceMIdeal.Facts) (hKernelN : Cert.KernelN.Facts) (hKernelNIdeal : Cert.KernelNIdeal.Facts) (hReferenceNIdeal : Cert.ReferenceNIdeal.Facts) (hKernelB : Cert.KernelB.Facts) (hKernelBIdeal : Cert.KernelBIdeal.Facts) (hReferenceBIdeal : Cert.ReferenceBIdeal.Facts) (hKernelO : Cert.KernelO.Facts) (hKernelOIdeal : Cert.KernelOIdeal.Facts) (hReferenceOIdeal : Cert.ReferenceOIdeal.Facts) (hKernelD : Cert.KernelD.Facts) (hKernelDIdeal : Cert.KernelDIdeal.Facts) (hReferenceDIdeal : Cert.ReferenceDIdeal.Facts) (hKernelC : Cert.KernelC.Facts) (hKernelCIdeal : Cert.KernelCIdeal.Facts) (hReferenceCIdeal : Cert.ReferenceCIdeal.Facts) (hKernelL : Cert.KernelL.Facts) (hKernelLIdeal : Cert.KernelLIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelD (hKernelD := hKernelD)
    ∧ quiescent_KernelDIdeal (hKernelDIdeal := hKernelDIdeal)
    ∧ quiescent_ReferenceDIdeal (hReferenceDIdeal := hReferenceDIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelL (hKernelL := hKernelL)
    ∧ quiescent_KernelLIdeal (hKernelLIdeal := hKernelLIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelU_KernelUIdeal
    ∧ algebraic_KernelUIdeal_ReferenceUIdeal (hKernelUIdeal := hKernelUIdeal) (hReferenceUIdeal := hReferenceUIdeal)
    ∧ preserves_KernelQ_KernelQIdeal
    ∧ algebraic_KernelQIdeal_ReferenceQIdeal (hKernelQIdeal := hKernelQIdeal) (hReferenceQIdeal := hReferenceQIdeal)
    ∧ preserves_KernelG_KernelGIdeal
    ∧ algebraic_KernelGIdeal_ReferenceGIdeal (hKernelGIdeal := hKernelGIdeal) (hReferenceGIdeal := hReferenceGIdeal)
    ∧ preserves_KernelM_KernelMIdeal
    ∧ algebraic_KernelMIdeal_ReferenceMIdeal (hKernelMIdeal := hKernelMIdeal) (hReferenceMIdeal := hReferenceMIdeal)
    ∧ preserves_KernelN_KernelNIdeal
    ∧ algebraic_KernelNIdeal_ReferenceNIdeal (hKernelNIdeal := hKernelNIdeal) (hReferenceNIdeal := hReferenceNIdeal)
    ∧ preserves_KernelB_KernelBIdeal
    ∧ algebraic_KernelBIdeal_ReferenceBIdeal (hKernelBIdeal := hKernelBIdeal) (hReferenceBIdeal := hReferenceBIdeal)
    ∧ preserves_KernelO_KernelOIdeal
    ∧ algebraic_KernelOIdeal_ReferenceOIdeal (hKernelOIdeal := hKernelOIdeal) (hReferenceOIdeal := hReferenceOIdeal)
    ∧ preserves_KernelD_KernelDIdeal
    ∧ algebraic_KernelDIdeal_ReferenceDIdeal (hKernelDIdeal := hKernelDIdeal) (hReferenceDIdeal := hReferenceDIdeal)
    ∧ preserves_KernelC_KernelCIdeal
    ∧ algebraic_KernelCIdeal_ReferenceCIdeal (hKernelCIdeal := hKernelCIdeal) (hReferenceCIdeal := hReferenceCIdeal)
    ∧ preserves_KernelL_KernelLIdeal
-- ==== Pre_finite_scores.lean ====
abbrev S16384x4096 : Shape := ⟨2, ![16384, 4096]⟩
abbrev S16384x1024 : Shape := ⟨2, ![16384, 1024]⟩
abbrev S64 : Shape := ⟨1, ![64]⟩
abbrev S4096x4096 : Shape := ⟨2, ![4096, 4096]⟩
abbrev S16384x512 : Shape := ⟨2, ![16384, 512]⟩
abbrev S_ : Shape := ⟨0, ![]⟩

class Facts : Prop where
  slices_S16384x1024_S16384x512_0_0 : S16384x1024.Slices ![0, 0] S16384x512
  bcast_S_S16384x4096 : S_.BroadcastsInDim S16384x4096 (![] : Fin 0 → Fin S16384x4096.rank)
  bcast_S_S16384x512 : S_.BroadcastsInDim S16384x512 (![] : Fin 0 → Fin S16384x512.rank)
  bcast_S_S64 : S_.BroadcastsInDim S64 (![] : Fin 0 → Fin S64.rank)

variable [Facts]

def fn {F : FTy → Type} [FloatOps F] (main_arg0 : FVec F S16384x4096 .bf16) (main_arg1 : FVec F S16384x1024 .bf16) (main_arg2 : FVec F S16384x4096 .f32) (main_arg3 : FVec F S64 .f32) (main_arg4 : FVec F S4096x4096 .f32) : IVec S16384x4096 1 × IVec S16384x512 1 × IVec S64 1 :=
  let main_v0 : FVec F S16384x512 .bf16 := (extractStridedSlice S16384x512 ![0, 0] · slices_S16384x1024_S16384x512_0_0) main_arg1
  let main_cst : FVec F S_ .bf16 := constant S_ .bf16 0xFF80#16
  let main_v1 : FVec F S16384x4096 .bf16 := broadcastInDim S16384x4096 ![] bcast_S_S16384x4096 main_cst
  let main_v2 : IVec S16384x4096 1 := cmpf .ogt main_arg0 main_v1
  let main_cst_0 : FVec F S_ .bf16 := constant S_ .bf16 0x7F80#16
  let main_v3 : FVec F S16384x4096 .bf16 := broadcastInDim S16384x4096 ![] bcast_S_S16384x4096 main_cst_0
  let main_v4 : IVec S16384x4096 1 := cmpf .olt main_arg0 main_v3
  let main_v5 : IVec S16384x4096 1 := andi main_v2 main_v4
  let main_cst_1 : FVec F S_ .bf16 := constant S_ .bf16 0xFF80#16
  let main_v6 : FVec F S16384x512 .bf16 := broadcastInDim S16384x512 ![] bcast_S_S16384x512 main_cst_1
  let main_v7 : IVec S16384x512 1 := cmpf .ogt main_v0 main_v6
  let main_cst_2 : FVec F S_ .bf16 := constant S_ .bf16 0x7F80#16
  let main_v8 : FVec F S16384x512 .bf16 := broadcastInDim S16384x512 ![] bcast_S_S16384x512 main_cst_2
  let main_v9 : IVec S16384x512 1 := cmpf .olt main_v0 main_v8
  let main_v10 : IVec S16384x512 1 := andi main_v7 main_v9
  let main_cst_3 : FVec F S_ .f32 := constant S_ .f32 0x7F800000#32
  let main_v11 : FVec F S64 .f32 := broadcastInDim S64 ![] bcast_S_S64 main_cst_3
  let main_v12 : IVec S64 1 := cmpf .olt main_arg3 main_v11
  (main_v5, main_v10, main_v12)
-- ==== Kernel.lean ====
abbrev S16384x4096 : Shape := ⟨2, ![16384, 4096]⟩
abbrev S16384x1024 : Shape := ⟨2, ![16384, 1024]⟩
abbrev S64 : Shape := ⟨1, ![64]⟩
abbrev S4096x4096 : Shape := ⟨2, ![4096, 4096]⟩
abbrev S256x4096 : Shape := ⟨2, ![256, 4096]⟩
abbrev S256x1024 : Shape := ⟨2, ![256, 1024]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S256x64 : Shape := ⟨2, ![256, 64]⟩
abbrev S128x4096 : Shape := ⟨2, ![128, 4096]⟩
abbrev S1024x128 : Shape := ⟨2, ![1024, 128]⟩
abbrev S1024x256 : Shape := ⟨2, ![1024, 256]⟩
abbrev S1 : Shape := ⟨1, ![1]⟩
abbrev S128 : Shape := ⟨1, ![128]⟩
abbrev S128x1 : Shape := ⟨2, ![128, 1]⟩

abbrev nBuf : Space → Nat
  | .hbm => 7
  | .vmem => 14
  | .smem => 1
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x4096, .f32⟩
  | .hbm, ⟨3, _⟩ => ⟨S64, .f32⟩
  | .hbm, ⟨4, _⟩ => ⟨S4096x4096, .f32⟩
  | .hbm, ⟨5, _⟩ => ⟨S16384x4096, .bf16⟩
  | .hbm, ⟨6, _⟩ => ⟨S4096x4096, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .bf16⟩
  | .local _ .vmem, ⟨3, _⟩ => ⟨S256x1024, .bf16⟩
  | .local _ .vmem, ⟨4, _⟩ => ⟨S128x1024, .bf16⟩
  | .local _ .vmem, ⟨5, _⟩ => ⟨S128x1024, .bf16⟩
  | .local _ .vmem, ⟨6, _⟩ => ⟨S256x4096, .f32⟩
  | .local _ .vmem, ⟨7, _⟩ => ⟨S256x4096, .f32⟩
  | .local _ .vmem, ⟨8, _⟩ => ⟨S256x1024, .f32⟩
  | .local _ .vmem, ⟨9, _⟩ => ⟨S256x1024, .f32⟩
  | .local _ .vmem, ⟨10, _⟩ => ⟨S256x4096, .bf16⟩
  | .local _ .vmem, ⟨11, _⟩ => ⟨S256x4096, .bf16⟩
  | .local _ .vmem, ⟨12, _⟩ => ⟨S256x1024, .bf16⟩
  | .local _ .vmem, ⟨13, _⟩ => ⟨S256x1024, .bf16⟩
  | .local _ .smem, ⟨0, _⟩ => ⟨S64, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.muli arg0 c1_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c0_i32_25 : BitVec 32 := 0#32
  let v58 : BitVec 32 := Scalar.addi c0_i32_25 v57
  let c0_i32_26 : BitVec 32 := 0#32
  ![v18.toNat, v58.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x4096 : Shape := ⟨2, ![16384, 4096]⟩
abbrev S16384x1024 : Shape := ⟨2, ![16384, 1024]⟩
abbrev S64 : Shape := ⟨1, ![64]⟩
abbrev S4096x4096 : Shape := ⟨2, ![4096, 4096]⟩
abbrev S128x128x8x8x64 : Shape := ⟨5, ![128, 128, 8, 8, 64]⟩
abbrev S16384x512 : Shape := ⟨2, ![16384, 512]⟩
abbrev S128x128x8x64 : Shape := ⟨4, ![128, 128, 8, 64]⟩
abbrev S1x128x8x64 : Shape := ⟨4, ![1, 128, 8, 64]⟩
abbrev S_ : Shape := ⟨0, ![]⟩
abbrev S127x128x8x64 : Shape := ⟨4, ![127, 128, 8, 64]⟩
abbrev S128x256x8x64 : Shape := ⟨4, ![128, 256, 8, 64]⟩
abbrev S128x8x256x128x8 : Shape := ⟨5, ![128, 8, 256, 128, 8]⟩
abbrev S128x8x8x128x256 : Shape := ⟨5, ![128, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S8x8 : Shape := ⟨2, ![8, 8]⟩
abbrev S1x8x8x1x1 : Shape := ⟨5, ![1, 8, 8, 1, 1]⟩
abbrev S128x8x8x128 : Shape := ⟨4, ![128, 8, 8, 128]⟩
abbrev S128x8x8x128x1 : Shape := ⟨5, ![128, 8, 8, 128, 1]⟩
abbrev S128x8x64x8x128 : Shape := ⟨5, ![128, 8, 64, 8, 128]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x4096, .f32⟩
  | .hbm, ⟨3, _⟩ => ⟨S64, .f32⟩
  | .hbm, ⟨4, _⟩ => ⟨S4096x4096, .f32⟩
  | .hbm, ⟨5, _⟩ => ⟨S16384x4096, .f32⟩
  | .hbm, ⟨6, _⟩ => ⟨S16384x1024, .f32⟩
  | .hbm, ⟨7, _⟩ => ⟨S128x128x8x8x64, .f32⟩
  | .hbm, ⟨8, _⟩ => ⟨S16384x512, .f32⟩
  | .hbm, ⟨9, _⟩ => ⟨S128x128x8x64, .f32⟩
  | .hbm, ⟨10, _⟩ => ⟨S16384x512, .f32⟩
  | .hbm, ⟨11, _⟩ => ⟨S128x128x8x64, .f32⟩
  | .hbm, ⟨12, _⟩ => ⟨S1x128x8x64, .f32⟩
  | .hbm, ⟨13, _⟩ => ⟨S_, .f32⟩
  | .hbm, ⟨14, _⟩ => ⟨S1x128x8x64, .f32⟩
  | .hbm, ⟨15, _⟩ => ⟨S127x128x8x64, .f32⟩
  | .hbm, ⟨16, _⟩ => ⟨S128x128x8x64, .f32⟩
  | .hbm, ⟨17, _⟩ => ⟨S128x256x8x64, .f32⟩
  | .hbm, ⟨18, _⟩ => ⟨S127x128x8x64, .f32⟩
  | .hbm, ⟨19, _⟩ => ⟨S128x128x8x64, .f32⟩
  | .hbm, ⟨20, _⟩ => ⟨S128x256x8x64, .f32⟩
  | .hbm, ⟨21, _⟩ => ⟨S128x8x256x128x8, .f32⟩
  | .hbm, ⟨22, _⟩ => ⟨S128x8x8x128x256, .f32⟩
  | .hbm, ⟨23, _⟩ => ⟨S_, .f32⟩
  | .hbm, ⟨24, _⟩ => ⟨S128x8x8x128x256, .f32⟩
  | .hbm, ⟨25, _⟩ => ⟨S128x8x8x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S128x1x1, .i1⟩
  | .hbm, ⟨48, _⟩ => ⟨S1x128x256, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S128x1x256, .i1⟩
  | .hbm, ⟨54, _⟩ => ⟨S128x1x256, .i1⟩
  | .hbm, ⟨55, _⟩ => ⟨S128x1x256, .i1⟩
  | .hbm, ⟨56, _⟩ => ⟨S128x1x256, .i1⟩
  | .hbm, ⟨57, _⟩ => ⟨S128x128x256, .i1⟩
  | .hbm, ⟨58, _⟩ => ⟨S128x128x256, .i1⟩
  | .hbm, ⟨59, _⟩ => ⟨S128x128x256, .i1⟩
  | .hbm, ⟨60, _⟩ => ⟨S128x1x1x128x256, .i1⟩
  | .hbm, ⟨61, _⟩ => ⟨S_, .f32⟩
  | .hbm, ⟨62, _⟩ => ⟨S_, .f32⟩
  | .hbm, ⟨63, _⟩ => ⟨S128x8x8x128x256, .i1⟩
  | .hbm, ⟨64, _⟩ => ⟨S128x8x8x128x256, .f32⟩
  | .hbm, ⟨65, _⟩ => ⟨S128x8x8x128x256, .f32⟩
  | .hbm, ⟨66, _⟩ => ⟨S8x8, .f32⟩
  | .hbm, ⟨67, _⟩ => ⟨S1x8x8x1x1, .f32⟩
  | .hbm, ⟨68, _⟩ => ⟨S_, .f32⟩
  | .hbm, ⟨69, _⟩ => ⟨S128x8x8x128, .f32⟩
  | .hbm, ⟨70, _⟩ => ⟨S128x8x8x128x1, .f32⟩
  | .hbm, ⟨71, _⟩ => ⟨S128x8x8x128x1, .f32⟩
  | .hbm, ⟨72, _⟩ => ⟨S128x8x8x128x1, .f32⟩
  | .hbm, ⟨73, _⟩ => ⟨S128x8x8x128x256, .f32⟩
  | .hbm, ⟨74, _⟩ => ⟨S128x8x8x128x256, .f32⟩
  | .hbm, ⟨75, _⟩ => ⟨S128x8x8x128x256, .f32⟩
  | .hbm, ⟨76, _⟩ => ⟨S_, .f32⟩
  | .hbm, ⟨77, _⟩ => ⟨S128x8x8x128, .f32⟩
  | .hbm, ⟨78, _⟩ => ⟨S128x8x8x128x1, .f32⟩
  | .hbm, ⟨79, _⟩ => ⟨S128x8x8x128x1, .f32⟩
  | .hbm, ⟨80, _⟩ => ⟨S128x8x8x128x1, .f32⟩
  | .hbm, ⟨81, _⟩ => ⟨S128x8x8x128x1, .f32⟩
  | .hbm, ⟨82, _⟩ => ⟨S128x8x8x128x1, .f32⟩
  | .hbm, ⟨83, _⟩ => ⟨S128x8x8x128x256, .f32⟩
  | .hbm, ⟨84, _⟩ => ⟨S128x8x8x128x256, .f32⟩
  | .hbm, ⟨85, _⟩ => ⟨S128x8x64x8x128, .f32⟩
  | .hbm, ⟨86, _⟩ => ⟨S128x128x8x8x64, .f32⟩
  | .hbm, ⟨87, _⟩ => ⟨S16384x4096, .f32⟩
  | .hbm, ⟨88, _⟩ => ⟨S16384x4096, .f32⟩
  | .hbm, ⟨89, _⟩ => ⟨S16384x4096, .bf16⟩
  | .hbm, ⟨90, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== KernelU.lean ====
abbrev S16384x4096 : Shape := ⟨2, ![16384, 4096]⟩
abbrev S4096x4096 : Shape := ⟨2, ![4096, 4096]⟩
abbrev S4096x25600 : Shape := ⟨2, ![4096, 25600]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S256x1024, .bf16⟩
  | .local _ .vmem, ⟨9, _⟩ => ⟨S256x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli arg0 c4_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c4_i32_25 : BitVec 32 := 4#32
  let v58 : BitVec 32 := Scalar.addi c4_i32_25 v57
  let c0_i32_26 : BitVec 32 := 0#32
  ![v18.toNat, v58.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceUIdeal.lean ====
abbrev S16384x4096 : Shape := ⟨2, ![16384, 4096]⟩
abbrev S4096x4096 : Shape := ⟨2, ![4096, 4096]⟩
abbrev S4096x25600 : Shape := ⟨2, ![4096, 25600]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S4096x4096, .f32⟩
  | .hbm, ⟨7, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQ.lean ====
abbrev S16384x4096 : Shape := ⟨2, ![16384, 4096]⟩
abbrev S4096x4096 : Shape := ⟨2, ![4096, 4096]⟩
abbrev S4096x25600 : Shape := ⟨2, ![4096, 25600]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .bf16⟩
  | .hbm, ⟨4, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli arg0 c4_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c13_i32 : BitVec 32 := 13#32
  let v58 : BitVec 32 := Scalar.addi c13_i32 v57
  let c0_i32_25 : BitVec 32 := 0#32
  ![v18.toNat, v58.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQIdeal.lean ====
abbrev S16384x4096 : Shape := ⟨2, ![16384, 4096]⟩
abbrev S4096x4096 : Shape := ⟨2, ![4096, 4096]⟩
abbrev S4096x25600 : Shape := ⟨2, ![4096, 25600]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .bf16⟩
  | .hbm, ⟨7, _⟩ => ⟨S4096x4096, .f32⟩
  | .hbm, ⟨8, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelG.lean ====
abbrev S16384x4096 : Shape := ⟨2, ![16384, 4096]⟩
abbrev S4096x4096 : Shape := ⟨2, ![4096, 4096]⟩
abbrev S4096x25600 : Shape := ⟨2, ![4096, 25600]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S256x1024, .bf16⟩
  | .local _ .vmem, ⟨9, _⟩ => ⟨S256x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli arg0 c4_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c8_i32 : BitVec 32 := 8#32
  let v58 : BitVec 32 := Scalar.addi c8_i32 v57
  let c0_i32_25 : BitVec 32 := 0#32
  ![v18.toNat, v58.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGIdeal.lean ====
abbrev S16384x4096 : Shape := ⟨2, ![16384, 4096]⟩
abbrev S4096x4096 : Shape := ⟨2, ![4096, 4096]⟩
abbrev S4096x25600 : Shape := ⟨2, ![4096, 25600]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S4096x4096, .f32⟩
  | .hbm, ⟨16, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== KernelM.lean ====
abbrev S16384x4096 : Shape := ⟨2, ![16384, 4096]⟩
abbrev S4096x4096 : Shape := ⟨2, ![4096, 4096]⟩
abbrev S4096x25600 : Shape := ⟨2, ![4096, 25600]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S256x1024, .bf16⟩
  | .local _ .vmem, ⟨9, _⟩ => ⟨S256x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli arg0 c4_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c21_i32 : BitVec 32 := 21#32
  let v58 : BitVec 32 := Scalar.addi c21_i32 v57
  let c0_i32_25 : BitVec 32 := 0#32
  ![v18.toNat, v58.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMIdeal.lean ====
abbrev S16384x4096 : Shape := ⟨2, ![16384, 4096]⟩
abbrev S4096x4096 : Shape := ⟨2, ![4096, 4096]⟩
abbrev S4096x25600 : Shape := ⟨2, ![4096, 25600]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S4096x25600, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S4096x4096, .f32⟩
  | .hbm, ⟨15, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelN.lean ====
abbrev S1x16384x4096 : Shape := ⟨3, ![1, 16384, 4096]⟩
abbrev S4096 : Shape := ⟨1, ![4096]⟩
abbrev S1x4096 : Shape := ⟨2, ![1, 4096]⟩
abbrev S4096x1024 : Shape := ⟨2, ![4096, 1024]⟩
abbrev S4096x25600 : Shape := ⟨2, ![4096, 25600]⟩
abbrev S16384x4096 : Shape := ⟨2, ![16384, 4096]⟩
abbrev S16384x1024 : Shape := ⟨2, ![16384, 1024]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S4096x1024, .bf16⟩
  | .hbm, ⟨5, _⟩ => ⟨S4096x25600, .f32⟩
  | .hbm, ⟨6, _⟩ => ⟨S16384x4096, .f32⟩
  | .hbm, ⟨7, _⟩ => ⟨S1x4096, .f32⟩
  | .hbm, ⟨8, _⟩ => ⟨S16384x4096, .bf16⟩
  | .hbm, ⟨9, _⟩ => ⟨S16384x1024, .bf16⟩
  | .hbm, ⟨10, _⟩ => ⟨S4096x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.muli arg0 c1_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c0_i32_25 : BitVec 32 := 0#32
  let v58 : BitVec 32 := Scalar.addi c0_i32_25 v57
  let c0_i32_26 : BitVec 32 := 0#32
  ![v18.toNat, v58.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceNIdeal.lean ====
abbrev S1x16384x4096 : Shape := ⟨3, ![1, 16384, 4096]⟩
abbrev S4096 : Shape := ⟨1, ![4096]⟩
abbrev S1x4096 : Shape := ⟨2, ![1, 4096]⟩
abbrev S4096x1024 : Shape := ⟨2, ![4096, 1024]⟩
abbrev S4096x25600 : Shape := ⟨2, ![4096, 25600]⟩
abbrev S_ : Shape := ⟨0, ![]⟩
abbrev S1x16384 : Shape := ⟨2, ![1, 16384]⟩
abbrev S1x16384x1 : Shape := ⟨3, ![1, 16384, 1]⟩
abbrev S1x1x4096 : Shape := ⟨3, ![1, 1, 4096]⟩
abbrev S16384x4096 : Shape := ⟨2, ![16384, 4096]⟩
abbrev S16384x1024 : Shape := ⟨2, ![16384, 1024]⟩
abbrev S4096x4096 : Shape := ⟨2, ![4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S4096x1024, .bf16⟩
  | .hbm, ⟨5, _⟩ => ⟨S4096x25600, .f32⟩
  | .hbm, ⟨6, _⟩ => ⟨S1x16384x4096, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x4096, .f32⟩
  | .hbm, ⟨18, _⟩ => ⟨S1x16384x4096, .f32⟩
  | .hbm, ⟨19, _⟩ => ⟨S1x1x4096, .f32⟩
  | .hbm, ⟨20, _⟩ => ⟨S1x16384x4096, .f32⟩
  | .hbm, ⟨21, _⟩ => ⟨S1x16384x4096, .f32⟩
  | .hbm, ⟨22, _⟩ => ⟨S1x1x4096, .f32⟩
  | .hbm, ⟨23, _⟩ => ⟨S_, .f32⟩
  | .hbm, ⟨24, _⟩ => ⟨S1x1x4096, .f32⟩
  | .hbm, ⟨25, _⟩ => ⟨S1x1x4096, .f32⟩
  | .hbm, ⟨26, _⟩ => ⟨S1x16384x4096, .f32⟩
  | .hbm, ⟨27, _⟩ => ⟨S1x16384x4096, .f32⟩
  | .hbm, ⟨28, _⟩ => ⟨S1x1x4096, .f32⟩
  | .hbm, ⟨29, _⟩ => ⟨S1x16384x4096, .f32⟩
  | .hbm, ⟨30, _⟩ => ⟨S1x16384x4096, .f32⟩
  | .hbm, ⟨31, _⟩ => ⟨S16384x4096, .f32⟩
  | .hbm, ⟨32, _⟩ => ⟨S4096x1024, .f32⟩
  | .hbm, ⟨33, _⟩ => ⟨S16384x1024, .f32⟩
  | .hbm, ⟨34, _⟩ => ⟨S16384x4096, .bf16⟩
  | .hbm, ⟨35, _⟩ => ⟨S16384x1024, .bf16⟩
  | .hbm, ⟨36, _⟩ => ⟨S4096x4096, .f32⟩
  | .hbm, ⟨37, _⟩ => ⟨S4096x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelB.lean ====
abbrev S16384x4096 : Shape := ⟨2, ![16384, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .bf16⟩
  | .hbm, ⟨3, _⟩ => ⟨S4096x4096, .bf16⟩
  | .hbm, ⟨4, _⟩ => ⟨S16384x4096, .f32⟩
  | .hbm, ⟨5, _⟩ => ⟨S16384x4096, .f32⟩
  | .hbm, ⟨6, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceBIdeal.lean ====
abbrev S16384x4096 : Shape := ⟨2, ![16384, 4096]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .bf16⟩
  | .hbm, ⟨3, _⟩ => ⟨S4096x4096, .bf16⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S4096x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelO.lean ====
abbrev S16384x4096 : Shape := ⟨2, ![16384, 4096]⟩
abbrev S4096x4096 : Shape := ⟨2, ![4096, 4096]⟩
abbrev S1x16384x4096 : Shape := ⟨3, ![1, 16384, 4096]⟩
abbrev S1x4096 : Shape := ⟨2, ![1, 4096]⟩
abbrev S4096 : Shape := ⟨1, ![4096]⟩
abbrev S512x4096 : Shape := ⟨2, ![512, 4096]⟩
abbrev S4096x1024 : Shape := ⟨2, ![4096, 1024]⟩
abbrev S512x1024 : Shape := ⟨2, ![512, 1024]⟩
abbrev S1x1024 : Shape := ⟨2, ![1, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x16384x4096, .f32⟩
  | .hbm, ⟨3, _⟩ => ⟨S1x4096, .f32⟩
  | .hbm, ⟨4, _⟩ => ⟨S4096, .f32⟩
  | .hbm, ⟨5, _⟩ => ⟨S16384x4096, .f32⟩
  | .hbm, ⟨6, _⟩ => ⟨S1x4096, .f32⟩
  | .hbm, ⟨7, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S4x512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_off1 (i : grid0.Coords) : Fin 3 → Nat :=
  let arg1 : BitVec 32 := BitVec.ofNat 32 (i 1).val
  let v9 : Index := Scalar.indexCast arg1
  let c0_7 : Index := 0#32
  let c0_8 : Index := 0#32
  ![v9.toNat, 0, 0]
def k0_cond1 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32 : BitVec 32 := 0#32
  let v15 : BitVec 1 := Scalar.cmpi .ne v14 c0_i32
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceOIdeal.lean ====
abbrev S16384x4096 : Shape := ⟨2, ![16384, 4096]⟩
abbrev S4096x4096 : Shape := ⟨2, ![4096, 4096]⟩
abbrev S1x16384x4096 : Shape := ⟨3, ![1, 16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x16384x4096, .f32⟩
  | .hbm, ⟨3, _⟩ => ⟨S1x4096, .f32⟩
  | .hbm, ⟨4, _⟩ => ⟨S4096, .f32⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelD.lean ====
abbrev S1x4096 : Shape := ⟨2, ![1, 4096]⟩
abbrev S4096x12288 : Shape := ⟨2, ![4096, 12288]⟩
abbrev S12288 : Shape := ⟨1, ![12288]⟩
abbrev S4096x1 : Shape := ⟨2, ![4096, 1]⟩
abbrev S1x12288 : Shape := ⟨2, ![1, 12288]⟩
abbrev S4096x512 : Shape := ⟨2, ![4096, 512]⟩
abbrev S1x512 : Shape := ⟨2, ![1, 512]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S4096x12288, .f32⟩
  | .hbm, ⟨2, _⟩ => ⟨S12288, .f32⟩
  | .hbm, ⟨3, _⟩ => ⟨S4096x1, .f32⟩
  | .hbm, ⟨4, _⟩ => ⟨S1x12288, .f32⟩
  | .hbm, ⟨5, _⟩ => ⟨S1x12288, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDIdeal.lean ====
abbrev S1x4096 : Shape := ⟨2, ![1, 4096]⟩
abbrev S4096x12288 : Shape := ⟨2, ![4096, 12288]⟩
abbrev S12288 : Shape := ⟨1, ![12288]⟩
abbrev S_ : Shape := ⟨0, ![]⟩
abbrev S1x12288 : Shape := ⟨2, ![1, 12288]⟩

abbrev nBuf : Space → Nat
  | .hbm => 15
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x12288, .f32⟩
  | .hbm, ⟨2, _⟩ => ⟨S12288, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x12288, .f32⟩
  | .hbm, ⟨13, _⟩ => ⟨S1x12288, .f32⟩
  | .hbm, ⟨14, _⟩ => ⟨S1x12288, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelC.lean ====
abbrev S4096x25600 : Shape := ⟨2, ![4096, 25600]⟩
abbrev S4096x1024 : Shape := ⟨2, ![4096, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x25600, .f32⟩
  | .hbm, ⟨1, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | _, _ => ⟨S4096x25600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceCIdeal.lean ====
abbrev S4096x25600 : Shape := ⟨2, ![4096, 25600]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x25600, .f32⟩
  | .hbm, ⟨1, _⟩ => ⟨S4096x1024, .f32⟩
  | .hbm, ⟨2, _⟩ => ⟨S4096x1024, .bf16⟩
  | _, _ => ⟨S4096x25600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelL.lean ====
abbrev S16384x4096 : Shape := ⟨2, ![16384, 4096]⟩
abbrev S4x4096 : Shape := ⟨2, ![4, 4096]⟩
abbrev S4096 : Shape := ⟨1, ![4096]⟩
abbrev S16x256x256 : Shape := ⟨3, ![16, 256, 256]⟩
abbrev S16x256 : Shape := ⟨2, ![16, 256]⟩
abbrev S4096x4096 : Shape := ⟨2, ![4096, 4096]⟩
abbrev S1x4096 : Shape := ⟨2, ![1, 4096]⟩
abbrev S_ : Shape := ⟨0, ![]⟩
abbrev S16x1x256 : Shape := ⟨3, ![16, 1, 256]⟩
abbrev S4096x256 : Shape := ⟨2, ![4096, 256]⟩
abbrev S4x256 : Shape := ⟨2, ![4, 256]⟩
abbrev S1x256 : Shape := ⟨2, ![1, 256]⟩
abbrev S1x256x256 : Shape := ⟨3, ![1, 256, 256]⟩
abbrev S1x1x256 : Shape := ⟨3, ![1, 1, 256]⟩
abbrev S256x1024 : Shape := ⟨2, ![256, 1024]⟩
abbrev S2x544x128 : Shape := ⟨3, ![2, 544, 128]⟩
abbrev S2x512x128 : Shape := ⟨3, ![2, 512, 128]⟩
abbrev S512x256 : Shape := ⟨2, ![512, 256]⟩
abbrev S8x256 : Shape := ⟨2, ![8, 256]⟩
abbrev S1x8x128 : Shape := ⟨3, ![1, 8, 128]⟩
abbrev S8x128 : Shape := ⟨2, ![8, 128]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S256x256 : Shape := ⟨2, ![256, 256]⟩
abbrev S64x256 : Shape := ⟨2, ![64, 256]⟩

abbrev nBuf : Space → Nat
  | .hbm => 24
  | .vmem => 28
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4x4096, .f32⟩
  | .hbm, ⟨3, _⟩ => ⟨S4096, .f32⟩
  | .hbm, ⟨4, _⟩ => ⟨S16x256x256, .f32⟩
  | .hbm, ⟨5, _⟩ => ⟨S16x256, .f32⟩
  | .hbm, ⟨6, _⟩ => ⟨S16x256x256, .f32⟩
  | .hbm, ⟨7, _⟩ => ⟨S16x256, .f32⟩
  | .hbm, ⟨8, _⟩ => ⟨S4096, .f32⟩
  | .hbm, ⟨9, _⟩ => ⟨S4096x4096, .f32⟩
  | .hbm, ⟨10, _⟩ => ⟨S1x4096, .f32⟩
  | .hbm, ⟨11, _⟩ => ⟨S_, .f32⟩
  | .hbm, ⟨12, _⟩ => ⟨S16x256x256, .f32⟩
  | .hbm, ⟨13, _⟩ => ⟨S16x256x256, .f32⟩
  | .hbm, ⟨14, _⟩ => ⟨S16x256x256, .bf16⟩
  | .hbm, ⟨15, _⟩ => ⟨S16x1x256, .f32⟩
  | .hbm, ⟨16, _⟩ => ⟨S_, .f32⟩
  | .hbm, ⟨17, _⟩ => ⟨S16x256x256, .f32⟩
  | .hbm, ⟨18, _⟩ => ⟨S16x256x256, .f32⟩
  | .hbm, ⟨19, _⟩ => ⟨S16x256x256, .bf16⟩
  | .hbm, ⟨20, _⟩ => ⟨S16x1x256, .f32⟩
  | .hbm, ⟨21, _⟩ => ⟨S1x4096, .f32⟩
  | .hbm, ⟨22, _⟩ => ⟨S16384x4096, .bf16⟩
  | .hbm, ⟨23, _⟩ => ⟨S4096x4096, .bf16⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x1x256, .f32⟩
  | .local _ .vmem, ⟨11, _⟩ => ⟨S1x1x256, .f32⟩
  | .local _ .vmem, ⟨12, _⟩ => ⟨S1x256x256, .bf16⟩
  | .local _ .vmem, ⟨13, _⟩ => ⟨S1x256x256, .bf16⟩
  | .local _ .vmem, ⟨14, _⟩ => ⟨S1x1x256, .f32⟩
  | .local _ .vmem, ⟨15, _⟩ => ⟨S1x1x256, .f32⟩
  | .local _ .vmem, ⟨16, _⟩ => ⟨S1x256, .f32⟩
  | .local _ .vmem, ⟨17, _⟩ => ⟨S1x256, .f32⟩
  | .local _ .vmem, ⟨18, _⟩ => ⟨S256x1024, .f32⟩
  | .local _ .vmem, ⟨19, _⟩ => ⟨S256x1024, .f32⟩
  | .local _ .vmem, ⟨20, _⟩ => ⟨S4096x256, .bf16⟩
  | .local _ .vmem, ⟨21, _⟩ => ⟨S4096x256, .bf16⟩
  | .local _ .vmem, ⟨22, _⟩ => ⟨S256x1024, .bf16⟩
  | .local _ .vmem, ⟨23, _⟩ => ⟨S256x1024, .bf16⟩
  | .local _ .vmem, ⟨24, _⟩ => ⟨S2x544x128, .f32⟩
  | .local _ .vmem, ⟨25, _⟩ => ⟨S2x512x128, .f32⟩
  | .local _ .vmem, ⟨26, _⟩ => ⟨S512x256, .f32⟩
  | .local _ .vmem, ⟨27, _⟩ => ⟨S1x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_19 : BitVec 32 := 0#32
  let c8_i32 : BitVec 32 := 8#32
  let v30 : BitVec 32 := Scalar.addi c0_i32_19 c8_i32
  let c1_i32 : BitVec 32 := 1#32
  ⟨c0_i32_19, v30, c1_i32⟩
def k0_mult1 (k0_t1 : Fin k0_t1_loop.trips) : BitVec 32 :=
  let c0_i32_19 : BitVec 32 := 0#32
  let c1_i32 : BitVec 32 := 1#32
  let arg18 : BitVec 32 := Scf.iv c0_i32_19 c1_i32 k0_t1
  let c512_i32 : BitVec 32 := 512#32
  let v31 : BitVec 32 := Scalar.muli arg18 c512_i32
  v31
def k0_off1 (k0_t1 : Fin k0_t1_loop.trips) (c0_i32_35 : BitVec 32) : Fin 2 → Nat :=
  let c0_i32_19 : BitVec 32 := 0#32
  let c1_i32 : BitVec 32 := 1#32
  let arg18 : BitVec 32 := Scf.iv c0_i32_19 c1_i32 k0_t1
  let c512_i32 : BitVec 32 := 512#32
  let v31 : BitVec 32 := Scalar.muli arg18 c512_i32
  let v32 : BitVec 32 := v31
  let v48 : BitVec 32 := Scalar.addi v32 c0_i32_35
  let v49 : Index := Scalar.indexCast v48
  let c0_36 : Index := 0#32
  ![v49.toNat, 0]
def k0_off2 (k0_t1 : Fin k0_t1_loop.trips) (c0_i32_39 : BitVec 32) : Fin 2 → Nat :=
  let c0_i32_19 : BitVec 32 := 0#32
  let c1_i32 : BitVec 32 := 1#32
  let arg18 : BitVec 32 := Scf.iv c0_i32_19 c1_i32 k0_t1
  let c512_i32 : BitVec 32 := 512#32
  let v31 : BitVec 32 := Scalar.muli arg18 c512_i32
  let v32 : BitVec 32 := v31
  let v54 : BitVec 32 := Scalar.addi v32 c0_i32_39
  let v55 : Index := Scalar.indexCast v54
  let c128 : Index := 128#32
  ![v55.toNat, 128]
def k0_off3 (k0_t1 : Fin k0_t1_loop.trips) (c0_i32_1547 : BitVec 32) : Fin 2 → Nat :=
  let c0_i32_19 : BitVec 32 := 0#32
  let c1_i32 : BitVec 32 := 1#32
  let arg18 : BitVec 32 := Scf.iv c0_i32_19 c1_i32 k0_t1
  let c512_i32 : BitVec 32 := 512#32
  let v31 : BitVec 32 := Scalar.muli arg18 c512_i32
  let v32 : BitVec 32 := v31
  let v2358 : BitVec 32 := Scalar.addi v32 c0_i32_1547
  let v2364 : Index := Scalar.indexCast v2358
  let c0_1554 : Index := 0#32
  ![v2364.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli arg0 c4_i32_11
  let v30 : BitVec 32 := Scalar.addi v29 arg1
  let c4_i32_12 : BitVec 32 := 4#32
  let v31 : BitVec 32 := Scalar.divsi v30 c4_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c4_i32_12 c0_i32_15
  let v38 : BitVec 32 := Scalar.extui v37
  let c0_i32_16 : BitVec 32 := 0#32
  let v39 : BitVec 1 := Scalar.cmpi .slt c4_i32_12 c0_i32_16
  let v40 : BitVec 32 := Scalar.extui v39
  let v41 : BitVec 32 := Scalar.subi v38 v40
  let v42 : BitVec 1 := Scalar.cmpi .ne v36 v41
  let v43 : BitVec 32 := Scalar.remsi v30 c4_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let c0_i32_20 : BitVec 32 := 0#32
  let v48 : BitVec 1 := Scalar.cmpi .eq c4_i32_19 c0_i32_20
  let c1_i32_21 : BitVec 32 := 1#32
  let v49 : BitVec 32 := Scalar.select v48 c1_i32_21 c4_i32_19
  let v50 : BitVec 32 := Scalar.remsi v30 v49
  let c0_i32_22 : BitVec 32 := 0#32
  let v51 : BitVec 1 := Scalar.cmpi .ne v50 c0_i32_22
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let v55 : BitVec 1 := Scalar.andi v54 v51
  let v56 : BitVec 32 := Scalar.addi v50 v49
  let v57 : BitVec 32 := Scalar.select v55 v56 v50
  let c0_i32_25 : BitVec 32 := 0#32
  let v58 : BitVec 32 := Scalar.addi c0_i32_25 v57
  let c0_i32_26 : BitVec 32 := 0#32
  ![v18.toNat, v58.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.OutRun.lean ====
/- The output projection with the final norm: the body run in its two cases (a tile of the row that is not the last, and
   the last one), and the names the runs are stated over. -/
module

public import proofs.«01_k».proof.Proof.Gen.KernelOIdeal.Frame
public import proofs.«01_k».proof.Proof.Gen.KernelOIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelOIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelOIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, ¬cond0_0 (grid0.coords t) → cfg0.idle 5 (grid0.coords t) = true := by decide +kernel
/-- At the points of case A the pipeline does not write output 5's block back. -/
theorem noFlush0_5_A : ∀ t : Fin cfg0.N, ¬cond0_0 (grid0.coords t) → (cfg0.win 5).flush t = false := by decide +kernel
/-- At the points of case B the printed configuration (`Cfg.idle`) calls output 5 live: the case stores into it. -/
theorem liveAt0_5_B : ∀ t : Fin cfg0.N, cond0_0 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S512x4096 .f32 := (Memref.whole cc0_stg5_0 : Memref sig .tc .vmem S512x4096 .f32).view
/-- Each window's current staging memref at point `t`, spelled as the pipeline passes it (`bodyAt0`), and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x512x1024 .f32 := Memref.whole cc0_scratch0
/-- The scratch `arg8` the kernel carries between points, as a view: what it holds is stated through it. -/
abbrev VS0_0 : View sig .tc .vmem S4x512x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 not taken: the points whose number is not 3 modulo 4: 96 of 128), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S4x512x1024 .f32) (harg8 : arg8.IsWhole) (hc0 : ¬cond0_0 i)
    (x0 : Vec F S512x4096 .bf16) (x1 : Vec F S4096x1024 .bf16) (x2 : Vec F S512x1024 .f32) (x3 : Vec F S1x1024 .f32) (x4 : Vec F S1x4096 .f32) :
    Σ' (L5 : List (View.Piece (Elt F) S512x4096 .f32)), { LS0 : List (View.Piece (Elt F) S4x512x1024 .f32) //
      ∀ (xi5 : Vec F S512x4096 .f32) (xs0 : Vec F S4x512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc0_out_norm i arg2 harg2 arg3 harg3 arg4 harg4 arg5 harg5 arg6 harg6 arg7 harg7 arg8 harg8) K } := by
  refine ⟨[], ?_, fun xi5 xs0 E K => ?run⟩
  case run =>
    simp only [cc0_out_norm_eq_skeleton]; unfold cc0_out_norm_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS0

-- (the run's proof term is large: the definition's epilogue — `abstractNestedProofs` — walks it past the default budget)
set_option maxHeartbeats 1000000 in
/-- What the body's stores leave in each output's staging memref, as pieces (last first) IN CASE B (`scf.if` 0 taken: points 3, 7, … 127: 32 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; a scratch filled one slice per point that the case reads is at ANY contents whose reads at the rectangles of earlier points' slices are the parameters `ps·` (the facts `hps·`); the case's own store into such a scratch is placed by `hl·` (the numbers its offsets are at every point of the case); the pieces are
    the witness that run finds (assigned when `iexact` hands the buffer to the continuation). -/
noncomputable def kernelRun0_B (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S4x512x1024 .f32) (harg8 : arg8.IsWhole) (hc0 : cond0_0 i) (hl0 : k0_off1 i = ![3, 0, 0])
    (x0 : Vec F S512x4096 .bf16) (x1 : Vec F S4096x1024 .bf16) (x2 : Vec F S512x1024 .f32) (x3 : Vec F S1x1024 .f32) (x4 : Vec F S1x4096 .f32) (ps0_0 : Vec F S1x512x1024 .f32) (ps0_1 : Vec F S1x512x1024 .f32) (ps0_2 : Vec F S1x512x1024 .f32) :
    Σ' (L5 : List (View.Piece (Elt F) S512x4096 .f32)), { LS0 : List (View.Piece (Elt F) S4x512x1024 .f32) //
      ∀ (xs0 : Vec F S4x512x1024 .f32) (hps0_0 : View.readAt (Elt F) arg8.view (Rect.unit (s := S4x512x1024) ![0, 0, 0] S1x512x1024.size inb_S4x512x1024_S1x512x1024_0_0_0).toLoadRect (harg8.unread xs0) = ps0_0) (hps0_1 : View.readAt (Elt F) arg8.view (Rect.unit (s := S4x512x1024) ![1, 0, 0] S1x512x1024.size inb_S4x512x1024_S1x512x1024_1_0_0).toLoadRect (harg8.unread xs0) = ps0_1) (hps0_2 : View.readAt (Elt F) arg8.view (Rect.unit (s := S4x512x1024) ![2, 0, 0] S1x512x1024.size inb_S4x512x1024_S1x512x1024_2_0_0).toLoadRect (harg8.unread xs0) = ps0_2) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0)) -∗ K ⟨⟩))
          ⊢ wp frame (wpE (defs₀ (F := F)) Variants.none c none) E (cc0_out_norm i arg2 harg2 arg3 harg3 arg4 harg4 arg5 harg5 arg6 harg6 arg7 harg7 arg8 harg8) K } := by
  refine ⟨?_, ?_, fun xs0 hps0_0 hps0_1 hps0_2 E K => ?run⟩
  case run =>
    letI : ClosedOff (k0_off1 i) := ⟨![3, 0, 0], hl0⟩
    simp only [cc0_out_norm_eq_skeleton]; unfold cc0_out_norm_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS0

end Cert.KernelOIdeal.Out

end
-- ==== Proof.OutData.lean ====
/- The output projection with the final norm, run over the whole grid. A row of blocks takes four points: each of them
   stores its 1024 columns of the residual sum into its own slice of the scratch, and the last one reads all four slices
   and stores the normalised row. Between points it is enough to know what the slices of the current row hold. -/
module

public import proofs.«01_k».proof.Proof.OutRun
public import Idealize.ShloMosaic.Lib.WritesUnit
public import Idealize.ShloMosaic.Lib.WholeRead
public import Idealize.ShloMosaic.Lib.Claim

@[expose] public section

set_option maxRecDepth 16384

noncomputable section

namespace Cert.KernelOIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelOIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slices -/

/-- The slice of the residual sum that grid point `t` computes from its blocks. -/
def slice (c : Dev nD) (t : Fin cfg0.N) : Vec F S1x512x1024 .f32 :=
  k0_pay1 (iblk m c 0 t) (iblk m c 1 t) (iblk m c 2 t) (iblk m c 3 t)

/-- Before point `n` the scratch `d` holds, in its slice `t % 4`, what each earlier point `t` of the same row computed. -/
def Holds (c : Dev nD) (n : ℕ) (d : Vec F S4x512x1024 .f32) : Prop :=
  ∀ t : Fin cfg0.N, t.val / 4 = n / 4 → t.val < n → ∀ (z : S4x512x1024.Idx) (y : S1x512x1024.Idx),
    (z (0 : Fin 3)).val = t.val % 4 → (z (1 : Fin 3)).val = (y (1 : Fin 3)).val → (z (2 : Fin 3)).val = (y (2 : Fin 3)).val →
    d z = slice m c t y

/-- Where point `t` stores its slice. -/
theorem off_at : ∀ t : Fin cfg0.N, k0_off1 (grid0.coords t) = ![t.val % 4, 0, 0] :=
  (by decide +kernel : ∀ t : Fin grid0.N, _)

theorem off_last (t : Fin cfg0.N) (h : t.val % 4 = 3) : k0_off1 (grid0.coords t) = ![3, 0, 0] := by
  rw [off_at t, h]

/-- At the start of a row nothing is known of the scratch, nor asked. -/
theorem holds_start (c : Dev nD) (n : ℕ) (hn : n % 4 = 0) (d : Vec F S4x512x1024 .f32) : Holds m c n d :=
  fun t h1 h2 => by omega

/-- A load of a whole buffer reads its contents. -/
theorem load_whole {s : Shape} {e : EltTy} (a : Memref sig .tc .vmem s e) (ha : a.IsWhole) (x : Vec F s e)
    {off : Fin s.rank → ℕ} (inb : ∀ k, off k + s.size k ≤ s.size k) (h0 : ∀ k, off k = 0) :
    View.readAt (Elt F) a.view (Rect.unit off s.size inb).toLoadRect (ha.unread x) = x := by
  funext y
  rw [ha.readAt_unread]
  congr 1
  funext k
  apply Fin.ext
  show off k + 1 * (y k).val = (y k).val
  rw [h0 k]; omega

/-- Storing point `t`'s slice keeps the slices of its row and adds its own. -/
theorem holds_step (c : Dev nD) (t : Fin cfg0.N) (h : ¬ t.val % 4 = 3) (d : Vec F S4x512x1024 .f32) (hd : Holds m c t.val d)
    (inb : ∀ a, k0_off1 (grid0.coords t) a + S1x512x1024.size a ≤ S4x512x1024.size a) :
    Holds m c (t.val + 1) (VS0_0.read (Elt F) (VS0_0.writes (Elt F) ((Memref.isWhole_whole cc0_scratch0).unread d)
      [⟨Rect.unit (k0_off1 (grid0.coords t)) S1x512x1024.size inb, slice m c t⟩])) := by
  intro u h1 h2 z y e0 e1 e2
  by_cases hu : u.val = t.val
  · obtain rfl : u = t := Fin.ext hu
    have hy : (y (0 : Fin 3)).val = 0 := Nat.lt_one_iff.mp (y (0 : Fin 3)).isLt
    have hx : ∀ a : Fin 3, (z a).val = (![u.val % 4, 0, 0] : Fin 3 → ℕ) a + (y a).val := by
      refine Fin.forall_fin_succ.mpr ⟨?_, Fin.forall_fin_two.mpr ⟨?_, ?_⟩⟩
      · show (z (0 : Fin 3)).val = u.val % 4 + (y (0 : Fin 3)).val
        omega
      · show (z (1 : Fin 3)).val = 0 + (y (1 : Fin 3)).val
        omega
      · show (z (2 : Fin 3)).val = 0 + (y (2 : Fin 3)).val
        omega
    exact View.read_writes_cons_unit_of_mem VS0_0 ((Memref.isWhole_whole cc0_scratch0).unread d) inb (slice m c u) [] z y
      (off_at u) hx
  · rw [View.read_writes_cons_unit_of_not_mem _ _ _ _ _ _ (off_at t) (0 : Fin 3) ?_]
    · rw [View.writes_nil, (Memref.isWhole_whole cc0_scratch0).read_unread]
      exact hd u (by omega) (by omega) z y e0 e1 e2
    · show (z (0 : Fin 3)).val < t.val % 4 ∨ t.val % 4 + 1 ≤ (z (0 : Fin 3)).val
      omega

/-- Before the row's last point the body stores one piece: its slice. -/
theorem run_A_slice (c : Dev nD) (t : Fin cfg0.N) (h : ¬ cond0_0 (grid0.coords t)) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk m c 0 t) (iblk m c 1 t) (iblk m c 2 t) (iblk m c 3 t) (iblk m c 4 t)).2.1
      = [⟨Rect.unit (k0_off1 (grid0.coords t)) S1x512x1024.size (k0_off1_inb _), slice m c t⟩] := by
  unfold kernelRun0_A slice
  dsimp only
  rw [load_whole _ _ _ _ (by decide), load_whole _ _ _ _ (by decide), load_whole _ _ _ _ (by decide),
    load_whole _ _ _ _ (by decide)]

/-- The point `k` places before `t`. -/
def back (t : Fin cfg0.N) (k : ℕ) : Fin cfg0.N := ⟨t.val - k, lt_of_le_of_lt (Nat.sub_le _ _) t.isLt⟩

/-- At the last point of a row, slice `j` of the scratch is what the row's point `j` computed. -/
theorem holds_read (c : Dev nD) (t : Fin cfg0.N) (h : t.val % 4 = 3) (d : Vec F S4x512x1024 .f32) (hd : Holds m c t.val d)
    (j k : ℕ) (hj : j + k = 3) (hk : 0 < k) (inb : ∀ a, (![j, 0, 0] : Fin 3 → ℕ) a + S1x512x1024.size a ≤ S4x512x1024.size a) :
    View.readAt (Elt F) scM0_0.view (Rect.unit (s := S4x512x1024) ![j, 0, 0] S1x512x1024.size inb).toLoadRect
      ((Memref.isWhole_whole cc0_scratch0).unread d) = slice m c (back t k) := by
  funext y
  rw [(Memref.isWhole_whole cc0_scratch0).readAt_unread]
  have hy : (y (0 : Fin 3)).val = 0 := Nat.lt_one_iff.mp (y (0 : Fin 3)).isLt
  refine hd (back t k) ?_ ?_ _ y ?_ ?_ ?_
  · show (t.val - k) / 4 = t.val / 4
    omega
  · show t.val - k < t.val
    omega
  · show j + 1 * (y (0 : Fin 3)).val = (t.val - k) % 4
    omega
  · show 0 + 1 * (y (1 : Fin 3)).val = (y (1 : Fin 3)).val
    omega
  · show 0 + 1 * (y (2 : Fin 3)).val = (y (2 : Fin 3)).val
    omega

/-! ## What the last point of a row stores -/

/-- The output block the last point of a row leaves, from its own blocks and the three slices before. -/
def rowBlock (c : Dev nD) (t : Fin cfg0.N) (h : t.val % 4 = 3) : Vec F S512x4096 .f32 :=
  VO0_5.read (Elt F) (VO0_5.writes (Elt F) VO0_5.junk
    (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (off_last t h)
      (iblk m c 0 t) (iblk m c 1 t) (iblk m c 2 t) (iblk m c 3 t) (iblk m c 4 t)
      (slice m c (back t 3)) (slice m c (back t 2)) (slice m c (back t 1))).1)

/-- The four tiles cover the output block. -/
theorem cover (c : Dev nD) (t : Fin cfg0.N) (h : t.val % 4 = 3) (y : S512x4096.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (off_last t h)
      (iblk m c 0 t) (iblk m c 1 t) (iblk m c 2 t) (iblk m c 3 t) (iblk m c 4 t)
      (slice m c (back t 3)) (slice m c (back t 2)) (slice m c (back t 1))).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (off_last t h)
    (iblk m c 0 t) (iblk m c 1 t) (iblk m c 2 t) (iblk m c 3 t) (iblk m c 4 t)
    (slice m c (back t 3)) (slice m c (back t 2)) (slice m c (back t 1))).1 S512x1024.size (by sl_kernel_rfl) y

/-! ## The pipeline's proof data -/

/-- The invariant before point `n`: the scratch holds the current row's slices so far. -/
def Inv (c : Dev nD) (n : ℕ) : sProp 𝕄 :=
  iprop((∃ d, ⌜Holds m c n d⌝ ∗ owns (c : Thread nD τ) scM0_0 fullShare d) ∗ (∃ r, prngReg c r))

/-- What each window's buffer holds after the body: an input its block, the output the row's block at the row's last
    point (at the other points nothing is stored into it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if h : t.val % 4 = 3 then rowBlock m c t h else fun _ => Classical.arbitrary _
  Φ t := Inv m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) (h : t.val % 4 = 3) : (dats m 0 c).after 5 t = rowBlock m c t h := by
  dsimp only [dats]; exact dif_pos h

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point keeps the invariant and leaves every window as the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  by_cases h0 : t.val % 4 = 3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_B t ((hcond0_0 t).mpr h0)], after0_5 m c t h0]
    iintro ⟨⟨⟨%dS0, %hS0, HS0⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ ((hcond0_0 t).mpr h0) (off_last t h0) (iblk m c 0 t) (iblk m c 1 t) (iblk m c 2 t) (iblk m c 3 t) (iblk m c 4 t) _ _ _).2.2 _ (holds_read m c t h0 dS0 hS0 0 3 rfl (by decide) _) (holds_read m c t h0 dS0 hS0 1 2 rfl (by decide) _) (holds_read m c t h0 dS0 hS0 2 1 rfl (by decide) _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]
      · iexists _; isplitr
        swap
        · unfold owns; iexists _; isplitr
          swap; · iexact HS0
          ipureintro; rfl
        ipureintro; exact holds_start m c _ (by omega) _
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover m c t h0)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt0_5_A t (fun h => h0 ((hcond0_0 t).mp h))) (noFlush0_5_A t (fun h => h0 ((hcond0_0 t).mp h)))]
    iintro ⟨⟨⟨%dS0, %hS0, HS0⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ (fun h => h0 ((hcond0_0 t).mp h)) (iblk m c 0 t) (iblk m c 1 t) (iblk m c 2 t) (iblk m c 3 t) (iblk m c 4 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]
      · iexists _; isplitr
        swap
        · unfold owns; iexists _; isplitr
          swap; · iexact HS0
          ipureintro; rfl
        ipureintro
        rw [run_A_slice m c t (fun h => h0 ((hcond0_0 t).mp h))]
        exact holds_step m c t h0 dS0 hS0 _
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point: no slice is known yet. -/
theorem hin (c : Dev nD) : Pipeline.ΦA spec0 c ⊢ (dats m 0 c).Φ 0 := by
  rw [show (dats m 0 c).Φ 0 = Inv m c 0 from rfl, PhiA0_eq]
  unfold Inv
  iintro ⟨⟨%dS0, HS0⟩, Hg⟩
  isplitl [HS0]
  · iexists dS0; isplitr
    · ipureintro; exact holds_start m c 0 rfl dS0
    iexact HS0
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = Inv m c (Fin.last cfg0.N).val from rfl, PhiA0_eq]
  unfold Inv
  iintro ⟨⟨%dS0, %hS0, HS0⟩, Hg⟩
  isplitl [HS0]
  · iexists _; iexact HS0
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every semaphore counter ends at zero, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelOIdeal.Out

end
-- ==== Proof.OutFrame.lean ====
/- The frames of the output projection with the final norm. The kernel and its idealization have the same text, so the one
   run, written over any values, gives both. -/
module

public import proofs.«01_k».proof.Proof.OutData
public import proofs.«01_k».proof.Proof.Gen.KernelO
public import proofs.«01_k».proof.Defs

@[expose] public section

set_option maxRecDepth 16384

noncomputable section

namespace Cert.Proof

open Idealize.ShloMosaic Idealize.SL.Sem

/-- The idealized kernel leaves its arguments and its counters as it found them. -/
theorem frame_kernelIdeal_o : Cert.quiescent_KernelOIdeal :=
  fun m ρ _ => Cert.KernelOIdeal.Out.frame (F := Ideal) m ρ

/-- The two programs run the same bodies. -/
theorem bodies_o : Cert.KernelO.defs₀ (F := Bits) = Cert.KernelOIdeal.defs₀ (F := Bits) := by
  unfold Cert.KernelO.defs₀ Cert.KernelOIdeal.defs₀
  congr 1
  funext b args
  obtain ⟨b, hb⟩ := b
  obtain rfl : b = 0 := by omega
  obtain ⟨t, s⟩ := args
  rfl

/-- Their tables of bodies and pipelines are the same. -/
theorem tables_o : Cert.KernelO.defs (F := Bits) = Cert.KernelOIdeal.defs (F := Bits) :=
  congrArg (Idealize.ShloMosaic.Pipeline.defs Cert.KernelOIdeal.pcfgs) bodies_o

/-- The kernel leaves its arguments and its counters as it found them. -/
theorem frame_kernel_o : Cert.quiescent_KernelO := by
  intro m ρ _
  rw [tables_o]
  exact Cert.KernelOIdeal.Out.frame (F := Bits) m ρ

end Cert.Proof

end
-- ==== Proof.Keeps.lean ====
/- What a body needs in order to run at all: every buffer it loads from or stores to held at some contents. A body made of
   loads, stores, pure arithmetic, a counted loop and a branch then keeps the buffers held, whatever it computes; nothing
   is said of the values. -/
module

public import Idealize.ShloMosaic.Lib.Pipeline.FrameBody
public import Idealize.ShloMosaic.Lib.Ring
public import Idealize.ShloMosaic.Lib.Tactic
public import Idealize.ShloMosaic.Lib.Scf

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels} {U : Type} [URA U]

local notation "𝕄" => MT nD τ sig Unit Val ℕ U ℕ

/-- The buffer of `a` is held whole, at some contents. -/
def Own (c : Dev nD) {cs : CoreSpace} {s : Shape} {e : EltTy} (a : Memref sig .tc cs s e) : sProp 𝕄 :=
  iprop(∃ X, owns (c : Thread nD τ) a fullShare X)

/-- Among what `G` holds is the buffer of `a`: it can be taken out and put back at any contents. -/
def Has (c : Dev nD) (G : sProp 𝕄) {cs : CoreSpace} {s : Shape} {e : EltTy} (a : Memref sig .tc cs s e) : Prop :=
  G ⊢ iprop(Own c a ∗ (Own c a -∗ G))

/-- The program runs from `G` and ends with `G`. -/
def Keeps (defs : Defs nD τ sig Val Λ) (c : Dev nD) (G : sProp 𝕄) {α : Type} (p : Prog (TpuEff nD τ sig Val Λ .tc) α) : Prop :=
  G ⊢ (wp frame (wpE defs Variants.none (c : Thread nD τ) none) Set.univ p (fun _ => G) : sProp 𝕄)

variable {defs : Defs nD τ sig Val Λ} {c : Dev nD}
variable {G : sProp (MT nD τ sig Unit Val ℕ U ℕ)}

/-- The first of the buffers held is held. -/
theorem has_head {cs : CoreSpace} {s : Shape} {e : EltTy} {a : Memref sig .tc cs s e} : Has (U := U) c iprop(Own c a ∗ G) a := by
  unfold Has
  iintro ⟨H, HG⟩
  isplitl [H]
  · iexact H
  iintro H
  isplitl [H]
  · iexact H
  iexact HG

/-- What is held is held with something more beside it. -/
theorem has_tail {cs : CoreSpace} {s : Shape} {e : EltTy} {a : Memref sig .tc cs s e} {Q : sProp (MT nD τ sig Unit Val ℕ U ℕ)}
    (h : Has (U := U) c G a) : Has (U := U) c iprop(Q ∗ G) a := by
  unfold Has at *
  iintro ⟨HQ, HG⟩
  ihave H := h $$ HG
  icases H with ⟨H, HG⟩
  isplitl [H]
  · iexact H
  iintro H
  isplitl [HQ]
  · iexact HQ
  iapply HG
  iexact H

/-- A value alone keeps what is held. -/
theorem keeps_pure {α : Type} (a : α) : Keeps (U := U) defs c G (pure a : Prog (TpuEff nD τ sig Val Λ .tc) α) := by
  unfold Keeps
  show G ⊢ (wp frame (wpE defs Variants.none (c : Thread nD τ) none) Set.univ (.ret a) (fun _ => G) : sProp 𝕄)
  rw [wp_ret]
  iintro H
  imodintro
  iexact H

/-- One program after another. -/
theorem keeps_bind {α β : Type} {p : Prog (TpuEff nD τ sig Val Λ .tc) α} {k : α → Prog (TpuEff nD τ sig Val Λ .tc) β}
    (hp : Keeps (U := U) defs c G p) (hk : ∀ a, Keeps (U := U) defs c G (k a)) : Keeps (U := U) defs c G (p >>= k) := by
  unfold Keeps at *
  rw [wp_bind]
  exact hp.trans (wp_mono _ _ _ hk)

/-- A load from a held buffer. -/
theorem keeps_load {cs : CoreSpace} {s : Shape} {e : EltTy} {a : Memref sig .tc cs s e} {r : LoadRect s}
    {hl : a.view.LoadsAt r} (h : Has (U := U) c G a) : Keeps (U := U) defs c G (Prog.lift (.load a r hl)) := by
  unfold Keeps Has Own owns at *
  refine h.trans ?_
  iintro ⟨⟨%X, %f, %hf, H⟩, HG⟩
  iapply (wp_load Variants.none (c : Thread nD τ) none Set.univ (m := a) (r := r) (hl := hl) (S := a.view.set) (f := f) (q := fullShare)
    (View.setOn_subset_set _ _)) $$ H
  iintro H
  rw [wp_ret]
  imodintro
  iapply HG
  iexists X; iexists f; isplitr
  · ipureintro; exact hf
  iexact H

/-- A store into a held buffer. -/
theorem keeps_store {cs : CoreSpace} {s : Shape} {e : EltTy} {a : Memref sig .tc cs s e} {r : Rect s} {w : r.shape.Idx → Val e}
    {Mk : Finset r.shape.Idx} {hx : (a.access r).Stores Mk} {hm : Mk = Finset.univ ∨ ∀ d, r.stride d = 1} (h : Has (U := U) c G a) :
    Keeps (U := U) defs c G (Prog.lift (.store a r w Mk hx hm)) := by
  unfold Keeps Has Own owns at *
  refine h.trans ?_
  iintro ⟨⟨%X, %f, %hf, H⟩, HG⟩
  iapply (wp_store Variants.none (c : Thread nD τ) none Set.univ (m := a) (r := r) (w := w) (Mk := Mk) (hx := hx) (hm := hm)
    (S := a.view.set) (f := f) ((View.setOn_subset_set _ _).trans (View.set_slice_subset _ _))) $$ H
  iintro H
  rw [wp_ret]
  imodintro
  iapply HG
  iexists _; iexists _; isplitr
  swap; · iexact H
  ipureintro; rfl

/-- A counted loop, each of whose trips keeps what is held. -/
theorem keeps_for {w : ℕ} {σ : Type} (lb ub st : BitVec w) (hok : Scf.OK lb ub st) (init : σ)
    (body : Fin (Scf.trips lb ub st) → σ → Prog (TpuEff nD τ sig Val Λ .tc) σ)
    (h : ∀ k acc, Keeps (U := U) defs c G (body k acc)) : Keeps (U := U) defs c G (Scf.for lb ub st hok init body) := by
  unfold Keeps at *
  refine BIBase.Entails.trans ?_ (Scf.wp_for _ _ _ lb ub st hok init body (fun _ _ => G) h)
  iintro H
  isplitl [H]
  · iexact H
  iintro %acc H
  iexact H

/-- A branch. -/
theorem keeps_dite {α : Type} {P : Prop} {_ : Decidable P} {p : P → Prog (TpuEff nD τ sig Val Λ .tc) α}
    {q : ¬ P → Prog (TpuEff nD τ sig Val Λ .tc) α} (hp : ∀ h, Keeps (U := U) defs c G (p h)) (hq : ∀ h, Keeps (U := U) defs c G (q h)) :
    Keeps (U := U) defs c G (if h : P then p h else q h) := by
  split
  · exact hp _
  · exact hq _

end Cert.Keep

end
-- ==== Proof.RecParts.lean ====
/- The recurrence's body, part by part: holding every buffer it is called with, each part runs and gives them back. -/
module

public import proofs.«01_k».proof.Proof.Keeps
public import proofs.«01_k».proof.Proof.Gen.KernelLIdeal.Frame

@[expose] public section

set_option maxRecDepth 16384

noncomputable section

namespace Cert.KernelLIdeal.Rec

open Idealize.ShloMosaic Idealize.ShloMosaic.TcCoe
open Idealize.SL Idealize.SL.RA Idealize.SL.BI
open Cert.Keep Cert.KernelLIdeal

variable {F : FTy → Type} [FloatOps F]

/-- Every buffer the body is called with is held. -/
structure Held (c : Dev nD) (G : sProp (MT nD τ sig Unit (Elt F) ℕ (UR sig nD τ) ℕ))
    (arg2 : Memref sig .tc .vmem S4096x256 .f32) (arg3 : Memref sig .tc .vmem S4096x256 .f32) (arg4 : Memref sig .tc .vmem S4x256 .f32) (arg5 : Memref sig .tc .vmem S1x256 .f32) (arg6 : Memref sig .tc .vmem S1x256x256 .bf16) (arg7 : Memref sig .tc .vmem S1x1x256 .f32) (arg8 : Memref sig .tc .vmem S1x256x256 .bf16) (arg9 : Memref sig .tc .vmem S1x1x256 .f32) (arg10 : Memref sig .tc .vmem S1x256 .f32) (arg11 : Memref sig .tc .vmem S256x1024 .f32) (arg12 : Memref sig .tc .vmem S4096x256 .bf16) (arg13 : Memref sig .tc .vmem S256x1024 .bf16) (arg14 : Memref sig .tc .vmem S2x544x128 .f32) (arg15 : Memref sig .tc .vmem S2x512x128 .f32) (arg16 : Memref sig .tc .vmem S512x256 .f32) (arg17 : Memref sig .tc .vmem S1x256 .f32) : Prop where
  h2 : Has c G arg2
  h3 : Has c G arg3
  h4 : Has c G arg4
  h5 : Has c G arg5
  h6 : Has c G arg6
  h7 : Has c G arg7
  h8 : Has c G arg8
  h9 : Has c G arg9
  h10 : Has c G arg10
  h11 : Has c G arg11
  h12 : Has c G arg12
  h13 : Has c G arg13
  h14 : Has c G arg14
  h15 : Has c G arg15
  h16 : Has c G arg16
  h17 : Has c G arg17

variable {c : Dev nD} {G : sProp (MT nD τ sig Unit (Elt F) ℕ (UR sig nD τ) ℕ)} {i : grid0.Coords}
  {arg2 : Memref sig .tc .vmem S4096x256 .f32} {harg2 : arg2.IsWhole}
  {arg3 : Memref sig .tc .vmem S4096x256 .f32} {harg3 : arg3.IsWhole}
  {arg4 : Memref sig .tc .vmem S4x256 .f32} {harg4 : arg4.IsWhole}
  {arg5 : Memref sig .tc .vmem S1x256 .f32} {harg5 : arg5.IsWhole}
  {arg6 : Memref sig .tc .vmem S1x256x256 .bf16} {harg6 : arg6.IsWhole}
  {arg7 : Memref sig .tc .vmem S1x1x256 .f32} {harg7 : arg7.IsWhole}
  {arg8 : Memref sig .tc .vmem S1x256x256 .bf16} {harg8 : arg8.IsWhole}
  {arg9 : Memref sig .tc .vmem S1x1x256 .f32} {harg9 : arg9.IsWhole}
  {arg10 : Memref sig .tc .vmem S1x256 .f32} {harg10 : arg10.IsWhole}
  {arg11 : Memref sig .tc .vmem S256x1024 .f32} {harg11 : arg11.IsWhole}
  {arg12 : Memref sig .tc .vmem S4096x256 .bf16} {harg12 : arg12.IsWhole}
  {arg13 : Memref sig .tc .vmem S256x1024 .bf16} {harg13 : arg13.IsWhole}
  {arg14 : Memref sig .tc .vmem S2x544x128 .f32} {harg14 : arg14.IsWhole}
  {arg15 : Memref sig .tc .vmem S2x512x128 .f32} {harg15 : arg15.IsWhole}
  {arg16 : Memref sig .tc .vmem S512x256 .f32} {harg16 : arg16.IsWhole}
  {arg17 : Memref sig .tc .vmem S1x256 .f32} {harg17 : arg17.IsWhole}

/-- Part 1 of the body. -/
theorem keeps_part1 (H : Held c G arg2 arg3 arg4 arg5 arg6 arg7 arg8 arg9 arg10 arg11 arg12 arg13 arg14 arg15 arg16 arg17) {c0_i32_19 : BitVec 32} {c1_i32 : BitVec 32} {k0_t1 : Fin k0_t1_loop.trips} :
    Keeps (defs₀ (F := F)) c G (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_19 c1_i32 k0_t1) := by
  unfold k0_part1
  refine keeps_bind (keeps_load H.h14) fun _ => ?_
  refine keeps_bind (keeps_load H.h14) fun _ => ?_
  refine keeps_bind (keeps_load H.h14) fun _ => ?_
  refine keeps_bind (keeps_load H.h14) fun _ => ?_
  refine keeps_bind (keeps_load H.h14) fun _ => ?_
  refine keeps_bind (keeps_load H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  exact keeps_pure _

/-- Part 2 of the body. -/
theorem keeps_part2 (H : Held c G arg2 arg3 arg4 arg5 arg6 arg7 arg8 arg9 arg10 arg11 arg12 arg13 arg14 arg15 arg16 arg17) {k0_t1 : Fin k0_t1_loop.trips} {v32 : BitVec 32} {v59 : FVec F S1x64x128 .f32} :
    Keeps (defs₀ (F := F)) c G (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v32 v59) := by
  unfold k0_part2
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  exact keeps_pure _

/-- Part 3 of the body. -/
theorem keeps_part3 (H : Held c G arg2 arg3 arg4 arg5 arg6 arg7 arg8 arg9 arg10 arg11 arg12 arg13 arg14 arg15 arg16 arg17) {k0_t1 : Fin k0_t1_loop.trips} {v32 : BitVec 32} {v89 : FVec F S1x64x128 .f32} :
    Keeps (defs₀ (F := F)) c G (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v32 v89) := by
  unfold k0_part3
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  exact keeps_pure _

/-- Part 4 of the body. -/
theorem keeps_part4 (H : Held c G arg2 arg3 arg4 arg5 arg6 arg7 arg8 arg9 arg10 arg11 arg12 arg13 arg14 arg15 arg16 arg17) {k0_t1 : Fin k0_t1_loop.trips} {v32 : BitVec 32} {v119 : FVec F S1x64x128 .f32} :
    Keeps (defs₀ (F := F)) c G (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v32 v119) := by
  unfold k0_part4
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h2) fun _ => ?_
  refine keeps_bind (keeps_load H.h14) fun _ => ?_
  refine keeps_bind (keeps_store H.h14) fun _ => ?_
  refine keeps_bind (keeps_load H.h14) fun _ => ?_
  refine keeps_bind (keeps_load H.h14) fun _ => ?_
  exact keeps_pure _

/-- Part 5 of the body. -/
theorem keeps_part5 (H : Held c G arg2 arg3 arg4 arg5 arg6 arg7 arg8 arg9 arg10 arg11 arg12 arg13 arg14 arg15 arg16 arg17) {v29 : IVec S8x256 32} {v37 : FVec F S8x256 .f32} {v42 : FVec F S8x256 .f32} {v148 : FVec F S8x256 .f32} :
    Keeps (defs₀ (F := F)) c G (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v37 v42 v148) := by
  unfold k0_part5
  refine keeps_bind (keeps_load H.h14) fun _ => ?_
  refine keeps_bind (keeps_store H.h14) fun _ => ?_
  refine keeps_bind (keeps_load H.h14) fun _ => ?_
  refine keeps_bind (keeps_store H.h14) fun _ => ?_
  refine keeps_bind (keeps_load H.h14) fun _ => ?_
  refine keeps_bind (keeps_load H.h14) fun _ => ?_
  refine keeps_bind (keeps_load H.h14) fun _ => ?_
  refine keeps_bind (keeps_store H.h14) fun _ => ?_
  refine keeps_bind (keeps_load H.h14) fun _ => ?_
  refine keeps_bind (keeps_store H.h14) fun _ => ?_
  exact keeps_pure _

/-- Part 6 of the body. -/
theorem keeps_part6 (H : Held c G arg2 arg3 arg4 arg5 arg6 arg7 arg8 arg9 arg10 arg11 arg12 arg13 arg14 arg15 arg16 arg17) {v28 : Vec F S4x256 .f32} {v29 : IVec S8x256 32} {v47 : FVec F S8x256 .f32} :
    Keeps (defs₀ (F := F)) c G (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v28 v29 v47) := by
  unfold k0_part6
  refine keeps_bind (keeps_load H.h14) fun _ => ?_
  refine keeps_bind (keeps_load H.h14) fun _ => ?_
  refine keeps_bind (keeps_load H.h14) fun _ => ?_
  refine keeps_bind (keeps_store H.h14) fun _ => ?_
  refine keeps_bind (keeps_load H.h14) fun _ => ?_
  refine keeps_bind (keeps_store H.h14) fun _ => ?_
  refine keeps_bind (keeps_load H.h5) fun _ => ?_
  refine keeps_bind (keeps_load H.h14) fun _ => ?_
  refine keeps_bind (keeps_load H.h14) fun _ => ?_
  refine keeps_bind (keeps_load H.h14) fun _ => ?_
  exact keeps_pure _

/-- Part 7 of the body. -/
theorem keeps_part7 (H : Held c G arg2 arg3 arg4 arg5 arg6 arg7 arg8 arg9 arg10 arg11 arg12 arg13 arg14 arg15 arg16 arg17) {v23 : FVec F S1x256 .f32} {v27 : FVec F S1x256 .f32} {v28 : Vec F S4x256 .f32} {v209 : FVec F S512x256 .f32} {v210 : FVec F S1x256 .f32} {v212 : FVec F S512x128 .f32} :
    Keeps (defs₀ (F := F)) c G (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v23 v27 v28 v209 v210 v212) := by
  unfold k0_part7
  refine keeps_bind (keeps_load H.h14) fun _ => ?_
  refine keeps_bind (keeps_load H.h14) fun _ => ?_
  refine keeps_bind (keeps_load H.h14) fun _ => ?_
  refine keeps_bind (keeps_load H.h14) fun _ => ?_
  refine keeps_bind (keeps_load H.h14) fun _ => ?_
  refine keeps_bind (keeps_load H.h6) fun _ => ?_
  refine keeps_bind (keeps_load H.h8) fun _ => ?_
  exact keeps_pure _

/-- Part 8 of the body. -/
theorem keeps_part8 (H : Held c G arg2 arg3 arg4 arg5 arg6 arg7 arg8 arg9 arg10 arg11 arg12 arg13 arg14 arg15 arg16 arg17) {v19 : FVec F S1x256 .f32} {v236 : FVec F S512x256 .f32} {v243 : FVec F S512x256 .f32} {v249 : FVec F S512x256 .f32} :
    Keeps (defs₀ (F := F)) c G (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v236 v243 v249) := by
  unfold k0_part8
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  exact keeps_pure _

/-- Part 9 of the body. -/
theorem keeps_part9 (H : Held c G arg2 arg3 arg4 arg5 arg6 arg7 arg8 arg9 arg10 arg11 arg12 arg13 arg14 arg15 arg16 arg17) {v254 : FVec F S512x256 .f32} {v266 : FVec F S512x256 .f32} {v283 : FVec F S8x256 .f32} {v284 : FVec F S8x256 .f32} {v288 : FVec F S8x128 .f32} {v289 : Vec F S1x8x128 .f32} :
    Keeps (defs₀ (F := F)) c G (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v283 v284 v288 v289) := by
  unfold k0_part9
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 10 of the body. -/
theorem keeps_part10 (H : Held c G arg2 arg3 arg4 arg5 arg6 arg7 arg8 arg9 arg10 arg11 arg12 arg13 arg14 arg15 arg16 arg17) {v254 : FVec F S512x256 .f32} {v266 : FVec F S512x256 .f32} {v315 : FVec F S8x256 .f32} {v316 : FVec F S8x256 .f32} {v324 : FVec F S8x128 .f32} :
    Keeps (defs₀ (F := F)) c G (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v315 v316 v324) := by
  unfold k0_part10
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 11 of the body. -/
theorem keeps_part11 (H : Held c G arg2 arg3 arg4 arg5 arg6 arg7 arg8 arg9 arg10 arg11 arg12 arg13 arg14 arg15 arg16 arg17) {v254 : FVec F S512x256 .f32} {v266 : FVec F S512x256 .f32} {v347 : FVec F S8x256 .f32} {v348 : FVec F S8x256 .f32} {v360 : FVec F S8x256 .f32} :
    Keeps (defs₀ (F := F)) c G (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v347 v348 v360) := by
  unfold k0_part11
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 12 of the body. -/
theorem keeps_part12 (H : Held c G arg2 arg3 arg4 arg5 arg6 arg7 arg8 arg9 arg10 arg11 arg12 arg13 arg14 arg15 arg16 arg17) {v254 : FVec F S512x256 .f32} {v266 : FVec F S512x256 .f32} {v395 : FVec F S8x256 .f32} {v396 : FVec F S8x256 .f32} :
    Keeps (defs₀ (F := F)) c G (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v395 v396) := by
  unfold k0_part12
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  exact keeps_pure _

/-- Part 13 of the body. -/
theorem keeps_part13 (H : Held c G arg2 arg3 arg4 arg5 arg6 arg7 arg8 arg9 arg10 arg11 arg12 arg13 arg14 arg15 arg16 arg17) {v254 : FVec F S512x256 .f32} {v266 : FVec F S512x256 .f32} {v427 : FVec F S8x256 .f32} {v428 : FVec F S8x256 .f32} {v432 : FVec F S8x128 .f32} :
    Keeps (defs₀ (F := F)) c G (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v427 v428 v432) := by
  unfold k0_part13
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 14 of the body. -/
theorem keeps_part14 (H : Held c G arg2 arg3 arg4 arg5 arg6 arg7 arg8 arg9 arg10 arg11 arg12 arg13 arg14 arg15 arg16 arg17) {v254 : FVec F S512x256 .f32} {v266 : FVec F S512x256 .f32} {v459 : FVec F S8x256 .f32} {v460 : FVec F S8x256 .f32} :
    Keeps (defs₀ (F := F)) c G (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v459 v460) := by
  unfold k0_part14
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  exact keeps_pure _

/-- Part 15 of the body. -/
theorem keeps_part15 (H : Held c G arg2 arg3 arg4 arg5 arg6 arg7 arg8 arg9 arg10 arg11 arg12 arg13 arg14 arg15 arg16 arg17) {v254 : FVec F S512x256 .f32} {v266 : FVec F S512x256 .f32} {v491 : FVec F S8x256 .f32} {v492 : FVec F S8x256 .f32} {v500 : FVec F S8x128 .f32} :
    Keeps (defs₀ (F := F)) c G (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v491 v492 v500) := by
  unfold k0_part15
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 16 of the body. -/
theorem keeps_part16 (H : Held c G arg2 arg3 arg4 arg5 arg6 arg7 arg8 arg9 arg10 arg11 arg12 arg13 arg14 arg15 arg16 arg17) {v254 : FVec F S512x256 .f32} {v266 : FVec F S512x256 .f32} {v524 : FVec F S8x256 .f32} {v536 : FVec F S8x256 .f32} {v539 : FVec F S8x256 .f32} :
    Keeps (defs₀ (F := F)) c G (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v524 v536 v539) := by
  unfold k0_part16
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  exact keeps_pure _

/-- Part 17 of the body. -/
theorem keeps_part17 (H : Held c G arg2 arg3 arg4 arg5 arg6 arg7 arg8 arg9 arg10 arg11 arg12 arg13 arg14 arg15 arg16 arg17) {v254 : FVec F S512x256 .f32} {v266 : FVec F S512x256 .f32} {v571 : FVec F S8x256 .f32} {v572 : FVec F S8x256 .f32} {v575 : FVec F S8x256 .f32} :
    Keeps (defs₀ (F := F)) c G (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v571 v572 v575) := by
  unfold k0_part17
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  exact keeps_pure _

/-- Part 18 of the body. -/
theorem keeps_part18 (H : Held c G arg2 arg3 arg4 arg5 arg6 arg7 arg8 arg9 arg10 arg11 arg12 arg13 arg14 arg15 arg16 arg17) {v254 : FVec F S512x256 .f32} {v266 : FVec F S512x256 .f32} {v603 : FVec F S8x256 .f32} {v604 : FVec F S8x256 .f32} {v608 : FVec F S8x128 .f32} {v609 : Vec F S1x8x128 .f32} :
    Keeps (defs₀ (F := F)) c G (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v603 v604 v608 v609) := by
  unfold k0_part18
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 19 of the body. -/
theorem keeps_part19 (H : Held c G arg2 arg3 arg4 arg5 arg6 arg7 arg8 arg9 arg10 arg11 arg12 arg13 arg14 arg15 arg16 arg17) {v254 : FVec F S512x256 .f32} {v266 : FVec F S512x256 .f32} {v635 : FVec F S8x256 .f32} {v636 : FVec F S8x256 .f32} {v644 : FVec F S8x128 .f32} :
    Keeps (defs₀ (F := F)) c G (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v635 v636 v644) := by
  unfold k0_part19
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 20 of the body. -/
theorem keeps_part20 (H : Held c G arg2 arg3 arg4 arg5 arg6 arg7 arg8 arg9 arg10 arg11 arg12 arg13 arg14 arg15 arg16 arg17) {v254 : FVec F S512x256 .f32} {v266 : FVec F S512x256 .f32} {v667 : FVec F S8x256 .f32} {v668 : FVec F S8x256 .f32} {v680 : FVec F S8x256 .f32} :
    Keeps (defs₀ (F := F)) c G (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v667 v668 v680) := by
  unfold k0_part20
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 21 of the body. -/
theorem keeps_part21 (H : Held c G arg2 arg3 arg4 arg5 arg6 arg7 arg8 arg9 arg10 arg11 arg12 arg13 arg14 arg15 arg16 arg17) {v254 : FVec F S512x256 .f32} {v266 : FVec F S512x256 .f32} {v715 : FVec F S8x256 .f32} {v716 : FVec F S8x256 .f32} :
    Keeps (defs₀ (F := F)) c G (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v715 v716) := by
  unfold k0_part21
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  exact keeps_pure _

/-- Part 22 of the body. -/
theorem keeps_part22 (H : Held c G arg2 arg3 arg4 arg5 arg6 arg7 arg8 arg9 arg10 arg11 arg12 arg13 arg14 arg15 arg16 arg17) {v254 : FVec F S512x256 .f32} {v266 : FVec F S512x256 .f32} {v747 : FVec F S8x256 .f32} {v748 : FVec F S8x256 .f32} {v752 : FVec F S8x128 .f32} :
    Keeps (defs₀ (F := F)) c G (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v747 v748 v752) := by
  unfold k0_part22
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 23 of the body. -/
theorem keeps_part23 (H : Held c G arg2 arg3 arg4 arg5 arg6 arg7 arg8 arg9 arg10 arg11 arg12 arg13 arg14 arg15 arg16 arg17) {v254 : FVec F S512x256 .f32} {v266 : FVec F S512x256 .f32} {v779 : FVec F S8x256 .f32} {v780 : FVec F S8x256 .f32} :
    Keeps (defs₀ (F := F)) c G (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v779 v780) := by
  unfold k0_part23
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  exact keeps_pure _

/-- Part 24 of the body. -/
theorem keeps_part24 (H : Held c G arg2 arg3 arg4 arg5 arg6 arg7 arg8 arg9 arg10 arg11 arg12 arg13 arg14 arg15 arg16 arg17) {v254 : FVec F S512x256 .f32} {v266 : FVec F S512x256 .f32} {v811 : FVec F S8x256 .f32} {v812 : FVec F S8x256 .f32} {v820 : FVec F S8x128 .f32} :
    Keeps (defs₀ (F := F)) c G (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v811 v812 v820) := by
  unfold k0_part24
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 25 of the body. -/
theorem keeps_part25 (H : Held c G arg2 arg3 arg4 arg5 arg6 arg7 arg8 arg9 arg10 arg11 arg12 arg13 arg14 arg15 arg16 arg17) {v254 : FVec F S512x256 .f32} {v266 : FVec F S512x256 .f32} {v844 : FVec F S8x256 .f32} {v856 : FVec F S8x256 .f32} {v859 : FVec F S8x256 .f32} :
    Keeps (defs₀ (F := F)) c G (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v844 v856 v859) := by
  unfold k0_part25
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  exact keeps_pure _

/-- Part 26 of the body. -/
theorem keeps_part26 (H : Held c G arg2 arg3 arg4 arg5 arg6 arg7 arg8 arg9 arg10 arg11 arg12 arg13 arg14 arg15 arg16 arg17) {v254 : FVec F S512x256 .f32} {v266 : FVec F S512x256 .f32} {v891 : FVec F S8x256 .f32} {v892 : FVec F S8x256 .f32} {v895 : FVec F S8x256 .f32} :
    Keeps (defs₀ (F := F)) c G (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v891 v892 v895) := by
  unfold k0_part26
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  exact keeps_pure _

/-- Part 27 of the body. -/
theorem keeps_part27 (H : Held c G arg2 arg3 arg4 arg5 arg6 arg7 arg8 arg9 arg10 arg11 arg12 arg13 arg14 arg15 arg16 arg17) {v254 : FVec F S512x256 .f32} {v266 : FVec F S512x256 .f32} {v923 : FVec F S8x256 .f32} {v924 : FVec F S8x256 .f32} {v928 : FVec F S8x128 .f32} {v929 : Vec F S1x8x128 .f32} :
    Keeps (defs₀ (F := F)) c G (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v923 v924 v928 v929) := by
  unfold k0_part27
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 28 of the body. -/
theorem keeps_part28 (H : Held c G arg2 arg3 arg4 arg5 arg6 arg7 arg8 arg9 arg10 arg11 arg12 arg13 arg14 arg15 arg16 arg17) {v254 : FVec F S512x256 .f32} {v266 : FVec F S512x256 .f32} {v955 : FVec F S8x256 .f32} {v956 : FVec F S8x256 .f32} {v964 : FVec F S8x128 .f32} :
    Keeps (defs₀ (F := F)) c G (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v955 v956 v964) := by
  unfold k0_part28
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 29 of the body. -/
theorem keeps_part29 (H : Held c G arg2 arg3 arg4 arg5 arg6 arg7 arg8 arg9 arg10 arg11 arg12 arg13 arg14 arg15 arg16 arg17) {v254 : FVec F S512x256 .f32} {v266 : FVec F S512x256 .f32} {v987 : FVec F S8x256 .f32} {v988 : FVec F S8x256 .f32} {v1000 : FVec F S8x256 .f32} :
    Keeps (defs₀ (F := F)) c G (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v987 v988 v1000) := by
  unfold k0_part29
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 30 of the body. -/
theorem keeps_part30 (H : Held c G arg2 arg3 arg4 arg5 arg6 arg7 arg8 arg9 arg10 arg11 arg12 arg13 arg14 arg15 arg16 arg17) {v254 : FVec F S512x256 .f32} {v266 : FVec F S512x256 .f32} {v1035 : FVec F S8x256 .f32} {v1036 : FVec F S8x256 .f32} :
    Keeps (defs₀ (F := F)) c G (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1035 v1036) := by
  unfold k0_part30
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  exact keeps_pure _

/-- Part 31 of the body. -/
theorem keeps_part31 (H : Held c G arg2 arg3 arg4 arg5 arg6 arg7 arg8 arg9 arg10 arg11 arg12 arg13 arg14 arg15 arg16 arg17) {v254 : FVec F S512x256 .f32} {v266 : FVec F S512x256 .f32} {v1067 : FVec F S8x256 .f32} {v1068 : FVec F S8x256 .f32} {v1072 : FVec F S8x128 .f32} :
    Keeps (defs₀ (F := F)) c G (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1067 v1068 v1072) := by
  unfold k0_part31
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 32 of the body. -/
theorem keeps_part32 (H : Held c G arg2 arg3 arg4 arg5 arg6 arg7 arg8 arg9 arg10 arg11 arg12 arg13 arg14 arg15 arg16 arg17) {v254 : FVec F S512x256 .f32} {v266 : FVec F S512x256 .f32} {v1099 : FVec F S8x256 .f32} {v1100 : FVec F S8x256 .f32} :
    Keeps (defs₀ (F := F)) c G (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1099 v1100) := by
  unfold k0_part32
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  exact keeps_pure _

/-- Part 33 of the body. -/
theorem keeps_part33 (H : Held c G arg2 arg3 arg4 arg5 arg6 arg7 arg8 arg9 arg10 arg11 arg12 arg13 arg14 arg15 arg16 arg17) {v254 : FVec F S512x256 .f32} {v266 : FVec F S512x256 .f32} {v1131 : FVec F S8x256 .f32} {v1132 : FVec F S8x256 .f32} {v1140 : FVec F S8x128 .f32} :
    Keeps (defs₀ (F := F)) c G (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1131 v1132 v1140) := by
  unfold k0_part33
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 34 of the body. -/
theorem keeps_part34 (H : Held c G arg2 arg3 arg4 arg5 arg6 arg7 arg8 arg9 arg10 arg11 arg12 arg13 arg14 arg15 arg16 arg17) {v254 : FVec F S512x256 .f32} {v266 : FVec F S512x256 .f32} {v1164 : FVec F S8x256 .f32} {v1176 : FVec F S8x256 .f32} {v1179 : FVec F S8x256 .f32} :
    Keeps (defs₀ (F := F)) c G (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1164 v1176 v1179) := by
  unfold k0_part34
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  exact keeps_pure _

/-- Part 35 of the body. -/
theorem keeps_part35 (H : Held c G arg2 arg3 arg4 arg5 arg6 arg7 arg8 arg9 arg10 arg11 arg12 arg13 arg14 arg15 arg16 arg17) {v254 : FVec F S512x256 .f32} {v266 : FVec F S512x256 .f32} {v1211 : FVec F S8x256 .f32} {v1212 : FVec F S8x256 .f32} {v1215 : FVec F S8x256 .f32} :
    Keeps (defs₀ (F := F)) c G (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1211 v1212 v1215) := by
  unfold k0_part35
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  exact keeps_pure _

/-- Part 36 of the body. -/
theorem keeps_part36 (H : Held c G arg2 arg3 arg4 arg5 arg6 arg7 arg8 arg9 arg10 arg11 arg12 arg13 arg14 arg15 arg16 arg17) {v254 : FVec F S512x256 .f32} {v266 : FVec F S512x256 .f32} {v1243 : FVec F S8x256 .f32} {v1244 : FVec F S8x256 .f32} {v1248 : FVec F S8x128 .f32} {v1249 : Vec F S1x8x128 .f32} :
    Keeps (defs₀ (F := F)) c G (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v254 v266 v1243 v1244 v1248 v1249) := by
  unfold k0_part36
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h16) fun _ => ?_
  refine keeps_bind (keeps_store H.h16) fun _ => ?_
  refine keeps_bind (keeps_load H.h15) fun _ => ?_
  refine keeps_bind (keeps_store H.h15) fun _ => ?_
  exact keeps_pure _

/-- Part 37 of the body. -/
theorem keeps_part37 (H : Held c G arg2 arg3 arg4 arg5 arg6 arg7 arg8 arg9 arg10 arg11 arg12 arg13 arg14 arg15 arg16 arg17) {v29 : IVec S8x256 32} {v1275 : FVec F S8x256 .f32} {v1276 : FVec F S8x256 .f32} {v1284 : FVec F S8x128 .f32} :
    Keeps (defs₀ (F := F)) c G (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v1275 v1276 v1284) := by
  unfold k0_part37
  refine keeps_bind (keeps_load H.h15) fun _ => ?_
  refine keeps_bind (keeps_store H.h15) fun _ => ?_
  refine keeps_bind (keeps_load H.h17) fun _ => ?_
  exact keeps_pure _

/-- Part 38 of the body. -/
theorem keeps_part38 (H : Held c G arg2 arg3 arg4 arg5 arg6 arg7 arg8 arg9 arg10 arg11 arg12 arg13 arg14 arg15 arg16 arg17) {v29 : IVec S8x256 32} {v1323 : FVec F S8x256 .f32} {v1325 : FVec F S8x256 .f32} :
    Keeps (defs₀ (F := F)) c G (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v1323 v1325) := by
  unfold k0_part38
  refine keeps_bind (keeps_load H.h17) fun _ => ?_
  refine keeps_bind (keeps_store H.h17) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 39 of the body. -/
theorem keeps_part39 (H : Held c G arg2 arg3 arg4 arg5 arg6 arg7 arg8 arg9 arg10 arg11 arg12 arg13 arg14 arg15 arg16 arg17) {v1329 : FVec F S8x256 .f32} {v1354 : FVec F S8x256 .f32} {v1356 : FVec F S8x256 .f32} :
    Keeps (defs₀ (F := F)) c G (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1354 v1356) := by
  unfold k0_part39
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  exact keeps_pure _

/-- Part 40 of the body. -/
theorem keeps_part40 (H : Held c G arg2 arg3 arg4 arg5 arg6 arg7 arg8 arg9 arg10 arg11 arg12 arg13 arg14 arg15 arg16 arg17) {v1329 : FVec F S8x256 .f32} {v1386 : FVec F S8x256 .f32} :
    Keeps (defs₀ (F := F)) c G (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1386) := by
  unfold k0_part40
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  exact keeps_pure _

/-- Part 41 of the body. -/
theorem keeps_part41 (H : Held c G arg2 arg3 arg4 arg5 arg6 arg7 arg8 arg9 arg10 arg11 arg12 arg13 arg14 arg15 arg16 arg17) {v1329 : FVec F S8x256 .f32} {v1415 : FVec F S8x128 .f32} :
    Keeps (defs₀ (F := F)) c G (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1415) := by
  unfold k0_part41
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 42 of the body. -/
theorem keeps_part42 (H : Held c G arg2 arg3 arg4 arg5 arg6 arg7 arg8 arg9 arg10 arg11 arg12 arg13 arg14 arg15 arg16 arg17) {v1329 : FVec F S8x256 .f32} :
    Keeps (defs₀ (F := F)) c G (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329) := by
  unfold k0_part42
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  exact keeps_pure _

/-- Part 43 of the body. -/
theorem keeps_part43 (H : Held c G arg2 arg3 arg4 arg5 arg6 arg7 arg8 arg9 arg10 arg11 arg12 arg13 arg14 arg15 arg16 arg17) {v1329 : FVec F S8x256 .f32} {v1477 : FVec F S1x8x128 .f32} :
    Keeps (defs₀ (F := F)) c G (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1477) := by
  unfold k0_part43
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  exact keeps_pure _

/-- Part 44 of the body. -/
theorem keeps_part44 (H : Held c G arg2 arg3 arg4 arg5 arg6 arg7 arg8 arg9 arg10 arg11 arg12 arg13 arg14 arg15 arg16 arg17) {v1329 : FVec F S8x256 .f32} {v1506 : FVec F S8x128 .f32} :
    Keeps (defs₀ (F := F)) c G (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1506) := by
  unfold k0_part44
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  exact keeps_pure _

/-- Part 45 of the body. -/
theorem keeps_part45 (H : Held c G arg2 arg3 arg4 arg5 arg6 arg7 arg8 arg9 arg10 arg11 arg12 arg13 arg14 arg15 arg16 arg17) {v1329 : FVec F S8x256 .f32} {v1533 : FVec F S8x256 .f32} {v1537 : FVec F S1x8x128 .f32} :
    Keeps (defs₀ (F := F)) c G (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1533 v1537) := by
  unfold k0_part45
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 46 of the body. -/
theorem keeps_part46 (H : Held c G arg2 arg3 arg4 arg5 arg6 arg7 arg8 arg9 arg10 arg11 arg12 arg13 arg14 arg15 arg16 arg17) {v1329 : FVec F S8x256 .f32} {v1565 : FVec F S8x256 .f32} {v1566 : FVec F S8x128 .f32} :
    Keeps (defs₀ (F := F)) c G (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1565 v1566) := by
  unfold k0_part46
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 47 of the body. -/
theorem keeps_part47 (H : Held c G arg2 arg3 arg4 arg5 arg6 arg7 arg8 arg9 arg10 arg11 arg12 arg13 arg14 arg15 arg16 arg17) {v1329 : FVec F S8x256 .f32} {v1594 : FVec F S8x256 .f32} {v1596 : FVec F S8x256 .f32} :
    Keeps (defs₀ (F := F)) c G (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1594 v1596) := by
  unfold k0_part47
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  exact keeps_pure _

/-- Part 48 of the body. -/
theorem keeps_part48 (H : Held c G arg2 arg3 arg4 arg5 arg6 arg7 arg8 arg9 arg10 arg11 arg12 arg13 arg14 arg15 arg16 arg17) {v1329 : FVec F S8x256 .f32} {v1626 : FVec F S8x256 .f32} :
    Keeps (defs₀ (F := F)) c G (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1626) := by
  unfold k0_part48
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  exact keeps_pure _

/-- Part 49 of the body. -/
theorem keeps_part49 (H : Held c G arg2 arg3 arg4 arg5 arg6 arg7 arg8 arg9 arg10 arg11 arg12 arg13 arg14 arg15 arg16 arg17) {v1329 : FVec F S8x256 .f32} {v1655 : FVec F S8x128 .f32} :
    Keeps (defs₀ (F := F)) c G (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1655) := by
  unfold k0_part49
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 50 of the body. -/
theorem keeps_part50 (H : Held c G arg2 arg3 arg4 arg5 arg6 arg7 arg8 arg9 arg10 arg11 arg12 arg13 arg14 arg15 arg16 arg17) {v1329 : FVec F S8x256 .f32} :
    Keeps (defs₀ (F := F)) c G (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329) := by
  unfold k0_part50
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  exact keeps_pure _

/-- Part 51 of the body. -/
theorem keeps_part51 (H : Held c G arg2 arg3 arg4 arg5 arg6 arg7 arg8 arg9 arg10 arg11 arg12 arg13 arg14 arg15 arg16 arg17) {v1329 : FVec F S8x256 .f32} {v1717 : FVec F S1x8x128 .f32} :
    Keeps (defs₀ (F := F)) c G (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1717) := by
  unfold k0_part51
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  exact keeps_pure _

/-- Part 52 of the body. -/
theorem keeps_part52 (H : Held c G arg2 arg3 arg4 arg5 arg6 arg7 arg8 arg9 arg10 arg11 arg12 arg13 arg14 arg15 arg16 arg17) {v1329 : FVec F S8x256 .f32} {v1746 : FVec F S8x128 .f32} :
    Keeps (defs₀ (F := F)) c G (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1746) := by
  unfold k0_part52
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  exact keeps_pure _

/-- Part 53 of the body. -/
theorem keeps_part53 (H : Held c G arg2 arg3 arg4 arg5 arg6 arg7 arg8 arg9 arg10 arg11 arg12 arg13 arg14 arg15 arg16 arg17) {v1329 : FVec F S8x256 .f32} {v1773 : FVec F S8x256 .f32} {v1777 : FVec F S1x8x128 .f32} :
    Keeps (defs₀ (F := F)) c G (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1773 v1777) := by
  unfold k0_part53
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 54 of the body. -/
theorem keeps_part54 (H : Held c G arg2 arg3 arg4 arg5 arg6 arg7 arg8 arg9 arg10 arg11 arg12 arg13 arg14 arg15 arg16 arg17) {v1329 : FVec F S8x256 .f32} {v1805 : FVec F S8x256 .f32} {v1806 : FVec F S8x128 .f32} :
    Keeps (defs₀ (F := F)) c G (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1805 v1806) := by
  unfold k0_part54
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 55 of the body. -/
theorem keeps_part55 (H : Held c G arg2 arg3 arg4 arg5 arg6 arg7 arg8 arg9 arg10 arg11 arg12 arg13 arg14 arg15 arg16 arg17) {v1329 : FVec F S8x256 .f32} {v1834 : FVec F S8x256 .f32} {v1836 : FVec F S8x256 .f32} :
    Keeps (defs₀ (F := F)) c G (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1834 v1836) := by
  unfold k0_part55
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  exact keeps_pure _

/-- Part 56 of the body. -/
theorem keeps_part56 (H : Held c G arg2 arg3 arg4 arg5 arg6 arg7 arg8 arg9 arg10 arg11 arg12 arg13 arg14 arg15 arg16 arg17) {v1329 : FVec F S8x256 .f32} {v1866 : FVec F S8x256 .f32} :
    Keeps (defs₀ (F := F)) c G (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1866) := by
  unfold k0_part56
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  exact keeps_pure _

/-- Part 57 of the body. -/
theorem keeps_part57 (H : Held c G arg2 arg3 arg4 arg5 arg6 arg7 arg8 arg9 arg10 arg11 arg12 arg13 arg14 arg15 arg16 arg17) {v1329 : FVec F S8x256 .f32} {v1895 : FVec F S8x128 .f32} :
    Keeps (defs₀ (F := F)) c G (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1895) := by
  unfold k0_part57
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 58 of the body. -/
theorem keeps_part58 (H : Held c G arg2 arg3 arg4 arg5 arg6 arg7 arg8 arg9 arg10 arg11 arg12 arg13 arg14 arg15 arg16 arg17) {v1329 : FVec F S8x256 .f32} :
    Keeps (defs₀ (F := F)) c G (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329) := by
  unfold k0_part58
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  exact keeps_pure _

/-- Part 59 of the body. -/
theorem keeps_part59 (H : Held c G arg2 arg3 arg4 arg5 arg6 arg7 arg8 arg9 arg10 arg11 arg12 arg13 arg14 arg15 arg16 arg17) {v1329 : FVec F S8x256 .f32} {v1957 : FVec F S1x8x128 .f32} :
    Keeps (defs₀ (F := F)) c G (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1957) := by
  unfold k0_part59
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  exact keeps_pure _

/-- Part 60 of the body. -/
theorem keeps_part60 (H : Held c G arg2 arg3 arg4 arg5 arg6 arg7 arg8 arg9 arg10 arg11 arg12 arg13 arg14 arg15 arg16 arg17) {v1329 : FVec F S8x256 .f32} {v1986 : FVec F S8x128 .f32} :
    Keeps (defs₀ (F := F)) c G (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v1986) := by
  unfold k0_part60
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  exact keeps_pure _

/-- Part 61 of the body. -/
theorem keeps_part61 (H : Held c G arg2 arg3 arg4 arg5 arg6 arg7 arg8 arg9 arg10 arg11 arg12 arg13 arg14 arg15 arg16 arg17) {v1329 : FVec F S8x256 .f32} {v2013 : FVec F S8x256 .f32} {v2017 : FVec F S1x8x128 .f32} :
    Keeps (defs₀ (F := F)) c G (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2013 v2017) := by
  unfold k0_part61
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 62 of the body. -/
theorem keeps_part62 (H : Held c G arg2 arg3 arg4 arg5 arg6 arg7 arg8 arg9 arg10 arg11 arg12 arg13 arg14 arg15 arg16 arg17) {v1329 : FVec F S8x256 .f32} {v2045 : FVec F S8x256 .f32} {v2046 : FVec F S8x128 .f32} :
    Keeps (defs₀ (F := F)) c G (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2045 v2046) := by
  unfold k0_part62
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 63 of the body. -/
theorem keeps_part63 (H : Held c G arg2 arg3 arg4 arg5 arg6 arg7 arg8 arg9 arg10 arg11 arg12 arg13 arg14 arg15 arg16 arg17) {v1329 : FVec F S8x256 .f32} {v2074 : FVec F S8x256 .f32} {v2076 : FVec F S8x256 .f32} :
    Keeps (defs₀ (F := F)) c G (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2074 v2076) := by
  unfold k0_part63
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  exact keeps_pure _

/-- Part 64 of the body. -/
theorem keeps_part64 (H : Held c G arg2 arg3 arg4 arg5 arg6 arg7 arg8 arg9 arg10 arg11 arg12 arg13 arg14 arg15 arg16 arg17) {v1329 : FVec F S8x256 .f32} {v2106 : FVec F S8x256 .f32} :
    Keeps (defs₀ (F := F)) c G (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2106) := by
  unfold k0_part64
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  exact keeps_pure _

/-- Part 65 of the body. -/
theorem keeps_part65 (H : Held c G arg2 arg3 arg4 arg5 arg6 arg7 arg8 arg9 arg10 arg11 arg12 arg13 arg14 arg15 arg16 arg17) {v1329 : FVec F S8x256 .f32} {v2135 : FVec F S8x128 .f32} :
    Keeps (defs₀ (F := F)) c G (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2135) := by
  unfold k0_part65
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  exact keeps_pure _

/-- Part 66 of the body. -/
theorem keeps_part66 (H : Held c G arg2 arg3 arg4 arg5 arg6 arg7 arg8 arg9 arg10 arg11 arg12 arg13 arg14 arg15 arg16 arg17) {v1329 : FVec F S8x256 .f32} :
    Keeps (defs₀ (F := F)) c G (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329) := by
  unfold k0_part66
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  exact keeps_pure _

/-- Part 67 of the body. -/
theorem keeps_part67 (H : Held c G arg2 arg3 arg4 arg5 arg6 arg7 arg8 arg9 arg10 arg11 arg12 arg13 arg14 arg15 arg16 arg17) {v1329 : FVec F S8x256 .f32} {v2197 : FVec F S1x8x128 .f32} :
    Keeps (defs₀ (F := F)) c G (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2197) := by
  unfold k0_part67
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  exact keeps_pure _

/-- Part 68 of the body. -/
theorem keeps_part68 (H : Held c G arg2 arg3 arg4 arg5 arg6 arg7 arg8 arg9 arg10 arg11 arg12 arg13 arg14 arg15 arg16 arg17) {v1329 : FVec F S8x256 .f32} {v2226 : FVec F S8x128 .f32} :
    Keeps (defs₀ (F := F)) c G (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2226) := by
  unfold k0_part68
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  exact keeps_pure _

/-- Part 69 of the body. -/
theorem keeps_part69 (H : Held c G arg2 arg3 arg4 arg5 arg6 arg7 arg8 arg9 arg10 arg11 arg12 arg13 arg14 arg15 arg16 arg17) {v1329 : FVec F S8x256 .f32} {v2253 : FVec F S8x256 .f32} {v2257 : FVec F S1x8x128 .f32} :
    Keeps (defs₀ (F := F)) c G (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2253 v2257) := by
  unfold k0_part69
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 70 of the body. -/
theorem keeps_part70 (H : Held c G arg2 arg3 arg4 arg5 arg6 arg7 arg8 arg9 arg10 arg11 arg12 arg13 arg14 arg15 arg16 arg17) {v1329 : FVec F S8x256 .f32} {v2285 : FVec F S8x256 .f32} {v2286 : FVec F S8x128 .f32} :
    Keeps (defs₀ (F := F)) c G (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2285 v2286) := by
  unfold k0_part70
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  exact keeps_pure _

/-- Part 71 of the body. -/
theorem keeps_part71 (H : Held c G arg2 arg3 arg4 arg5 arg6 arg7 arg8 arg9 arg10 arg11 arg12 arg13 arg14 arg15 arg16 arg17) {v1329 : FVec F S8x256 .f32} {v2314 : FVec F S8x256 .f32} {v2316 : FVec F S8x256 .f32} :
    Keeps (defs₀ (F := F)) c G (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1329 v2314 v2316) := by
  unfold k0_part71
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  exact keeps_pure _

/-- Part 72 of the body. -/
theorem keeps_part72 (H : Held c G arg2 arg3 arg4 arg5 arg6 arg7 arg8 arg9 arg10 arg11 arg12 arg13 arg14 arg15 arg16 arg17) {k0_t1 : Fin k0_t1_loop.trips} {v32 : BitVec 32} {v1329 : FVec F S8x256 .f32} {v2346 : FVec F S8x256 .f32} :
    Keeps (defs₀ (F := F)) c G (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v32 v1329 v2346) := by
  unfold k0_part72
  refine keeps_bind (keeps_load H.h16) fun _ => ?_
  refine keeps_bind (keeps_load H.h15) fun _ => ?_
  refine keeps_bind (keeps_store H.h15) fun _ => ?_
  refine keeps_bind (keeps_load H.h15) fun _ => ?_
  refine keeps_bind (keeps_store H.h15) fun _ => ?_
  refine keeps_bind (keeps_load H.h15) fun _ => ?_
  refine keeps_bind (keeps_load H.h15) fun _ => ?_
  refine keeps_bind (keeps_load H.h3) fun _ => ?_
  refine keeps_bind (keeps_load H.h12) fun _ => ?_
  refine keeps_bind (keeps_store H.h12) fun _ => ?_
  refine keeps_bind (keeps_load H.h15) fun _ => ?_
  refine keeps_bind (keeps_load H.h15) fun _ => ?_
  refine keeps_bind (keeps_load H.h3) fun _ => ?_
  exact keeps_pure _

/-- Part 73 of the body. -/
theorem keeps_part73 (H : Held c G arg2 arg3 arg4 arg5 arg6 arg7 arg8 arg9 arg10 arg11 arg12 arg13 arg14 arg15 arg16 arg17) {k0_t1 : Fin k0_t1_loop.trips} {v32 : BitVec 32} {v2370 : BitVec 32} {v2378 : FVec F S64x256 .f32} :
    Keeps (defs₀ (F := F)) c G (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v32 v2370 v2378) := by
  unfold k0_part73
  refine keeps_bind (keeps_load H.h12) fun _ => ?_
  refine keeps_bind (keeps_store H.h12) fun _ => ?_
  refine keeps_bind (keeps_load H.h15) fun _ => ?_
  refine keeps_bind (keeps_load H.h15) fun _ => ?_
  refine keeps_bind (keeps_load H.h3) fun _ => ?_
  refine keeps_bind (keeps_load H.h12) fun _ => ?_
  refine keeps_bind (keeps_store H.h12) fun _ => ?_
  refine keeps_bind (keeps_load H.h15) fun _ => ?_
  refine keeps_bind (keeps_load H.h15) fun _ => ?_
  refine keeps_bind (keeps_load H.h3) fun _ => ?_
  refine keeps_bind (keeps_load H.h12) fun _ => ?_
  refine keeps_bind (keeps_store H.h12) fun _ => ?_
  refine keeps_bind (keeps_load H.h15) fun _ => ?_
  refine keeps_bind (keeps_load H.h15) fun _ => ?_
  exact keeps_pure _

/-- Part 74 of the body. -/
theorem keeps_part74 (H : Held c G arg2 arg3 arg4 arg5 arg6 arg7 arg8 arg9 arg10 arg11 arg12 arg13 arg14 arg15 arg16 arg17) {k0_t1 : Fin k0_t1_loop.trips} {v32 : BitVec 32} {v2406 : BitVec 32} {v2408 : FVec F S64x128 .f32} {v2409 : Vec F S1x64x128 .f32} :
    Keeps (defs₀ (F := F)) c G (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 v32 v2406 v2408 v2409) := by
  unfold k0_part74
  refine keeps_bind (keeps_load H.h3) fun _ => ?_
  refine keeps_bind (keeps_load H.h12) fun _ => ?_
  refine keeps_bind (keeps_store H.h12) fun _ => ?_
  refine keeps_bind (keeps_load H.h15) fun _ => ?_
  refine keeps_bind (keeps_load H.h15) fun _ => ?_
  refine keeps_bind (keeps_load H.h3) fun _ => ?_
  refine keeps_bind (keeps_load H.h12) fun _ => ?_
  refine keeps_bind (keeps_store H.h12) fun _ => ?_
  refine keeps_bind (keeps_load H.h15) fun _ => ?_
  refine keeps_bind (keeps_load H.h15) fun _ => ?_
  refine keeps_bind (keeps_load H.h3) fun _ => ?_
  refine keeps_bind (keeps_load H.h12) fun _ => ?_
  refine keeps_bind (keeps_store H.h12) fun _ => ?_
  exact keeps_pure _

/-- Part 75 of the body. -/
theorem keeps_part75 (H : Held c G arg2 arg3 arg4 arg5 arg6 arg7 arg8 arg9 arg10 arg11 arg12 arg13 arg14 arg15 arg16 arg17) {v19 : FVec F S1x256 .f32} {v23 : FVec F S1x256 .f32} {v27 : FVec F S1x256 .f32} {v28 : Vec F S4x256 .f32} {v29 : IVec S8x256 32} {c0_i32_19 : BitVec 32} {c1_i32 : BitVec 32} {k0_t1 : Fin k0_t1_loop.trips} :
    Keeps (defs₀ (F := F)) c G (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v23 v27 v28 v29 c0_i32_19 c1_i32 k0_t1) := by
  unfold k0_part75
  refine keeps_bind (keeps_part1 H) fun _ => ?_
  refine keeps_bind (keeps_part2 H) fun _ => ?_
  refine keeps_bind (keeps_part3 H) fun _ => ?_
  refine keeps_bind (keeps_part4 H) fun _ => ?_
  refine keeps_bind (keeps_part5 H) fun _ => ?_
  refine keeps_bind (keeps_part6 H) fun _ => ?_
  refine keeps_bind (keeps_part7 H) fun _ => ?_
  refine keeps_bind (keeps_part8 H) fun _ => ?_
  refine keeps_bind (keeps_part9 H) fun _ => ?_
  refine keeps_bind (keeps_part10 H) fun _ => ?_
  refine keeps_bind (keeps_part11 H) fun _ => ?_
  refine keeps_bind (keeps_part12 H) fun _ => ?_
  refine keeps_bind (keeps_part13 H) fun _ => ?_
  refine keeps_bind (keeps_part14 H) fun _ => ?_
  refine keeps_bind (keeps_part15 H) fun _ => ?_
  refine keeps_bind (keeps_part16 H) fun _ => ?_
  refine keeps_bind (keeps_part17 H) fun _ => ?_
  refine keeps_bind (keeps_part18 H) fun _ => ?_
  refine keeps_bind (keeps_part19 H) fun _ => ?_
  refine keeps_bind (keeps_part20 H) fun _ => ?_
  refine keeps_bind (keeps_part21 H) fun _ => ?_
  refine keeps_bind (keeps_part22 H) fun _ => ?_
  refine keeps_bind (keeps_part23 H) fun _ => ?_
  refine keeps_bind (keeps_part24 H) fun _ => ?_
  refine keeps_bind (keeps_part25 H) fun _ => ?_
  refine keeps_bind (keeps_part26 H) fun _ => ?_
  refine keeps_bind (keeps_part27 H) fun _ => ?_
  refine keeps_bind (keeps_part28 H) fun _ => ?_
  refine keeps_bind (keeps_part29 H) fun _ => ?_
  refine keeps_bind (keeps_part30 H) fun _ => ?_
  refine keeps_bind (keeps_part31 H) fun _ => ?_
  refine keeps_bind (keeps_part32 H) fun _ => ?_
  refine keeps_bind (keeps_part33 H) fun _ => ?_
  refine keeps_bind (keeps_part34 H) fun _ => ?_
  refine keeps_bind (keeps_part35 H) fun _ => ?_
  refine keeps_bind (keeps_part36 H) fun _ => ?_
  refine keeps_bind (keeps_part37 H) fun _ => ?_
  refine keeps_bind (keeps_part38 H) fun _ => ?_
  refine keeps_bind (keeps_part39 H) fun _ => ?_
  refine keeps_bind (keeps_part40 H) fun _ => ?_
  refine keeps_bind (keeps_part41 H) fun _ => ?_
  refine keeps_bind (keeps_part42 H) fun _ => ?_
  refine keeps_bind (keeps_part43 H) fun _ => ?_
  refine keeps_bind (keeps_part44 H) fun _ => ?_
  refine keeps_bind (keeps_part45 H) fun _ => ?_
  refine keeps_bind (keeps_part46 H) fun _ => ?_
  refine keeps_bind (keeps_part47 H) fun _ => ?_
  refine keeps_bind (keeps_part48 H) fun _ => ?_
  refine keeps_bind (keeps_part49 H) fun _ => ?_
  refine keeps_bind (keeps_part50 H) fun _ => ?_
  refine keeps_bind (keeps_part51 H) fun _ => ?_
  refine keeps_bind (keeps_part52 H) fun _ => ?_
  refine keeps_bind (keeps_part53 H) fun _ => ?_
  refine keeps_bind (keeps_part54 H) fun _ => ?_
  refine keeps_bind (keeps_part55 H) fun _ => ?_
  refine keeps_bind (keeps_part56 H) fun _ => ?_
  refine keeps_bind (keeps_part57 H) fun _ => ?_
  refine keeps_bind (keeps_part58 H) fun _ => ?_
  refine keeps_bind (keeps_part59 H) fun _ => ?_
  refine keeps_bind (keeps_part60 H) fun _ => ?_
  exact keeps_pure _

/-- Part 76 of the body. -/
theorem keeps_part76 (H : Held c G arg2 arg3 arg4 arg5 arg6 arg7 arg8 arg9 arg10 arg11 arg12 arg13 arg14 arg15 arg16 arg17) :
    Keeps (defs₀ (F := F)) c G (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  unfold k0_part76
  refine keeps_bind (keeps_load H.h11) fun _ => ?_
  refine keeps_bind (keeps_load H.h13) fun _ => ?_
  refine keeps_bind (keeps_store H.h13) fun _ => ?_
  refine keeps_dite (fun _ => ?_) fun _ => ?_
  · refine keeps_bind (keeps_load H.h14) fun _ => ?_
    refine keeps_bind (keeps_store H.h14) fun _ => ?_
    refine keeps_bind (keeps_load H.h17) fun _ => ?_
    refine keeps_bind (keeps_store H.h17) fun _ => ?_
    refine keeps_bind (keeps_load H.h10) fun _ => ?_
    refine keeps_bind (keeps_load H.h7) fun _ => ?_
    refine keeps_bind (keeps_load H.h9) fun _ => ?_
    refine keeps_bind (keeps_load H.h4) fun _ => ?_
    exact keeps_pure _
  · refine keeps_bind (keeps_load H.h10) fun _ => ?_
    refine keeps_bind (keeps_load H.h7) fun _ => ?_
    refine keeps_bind (keeps_load H.h9) fun _ => ?_
    refine keeps_bind (keeps_load H.h4) fun _ => ?_
    exact keeps_pure _

/-- The whole body. -/
theorem keeps_body (H : Held c G arg2 arg3 arg4 arg5 arg6 arg7 arg8 arg9 arg10 arg11 arg12 arg13 arg14 arg15 arg16 arg17) :
    Keeps (defs₀ (F := F)) c G (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  unfold cc0_rglru
  refine keeps_bind (keeps_part76 H) fun _ => ?_
  refine keeps_bind (keeps_for _ _ _ _ _ _ fun _ _ => ?_) fun _ => ?_
  · refine keeps_bind (keeps_part75 H) fun _ => ?_
    refine keeps_bind (keeps_part61 H) fun _ => ?_
    refine keeps_bind (keeps_part62 H) fun _ => ?_
    refine keeps_bind (keeps_part63 H) fun _ => ?_
    refine keeps_bind (keeps_part64 H) fun _ => ?_
    refine keeps_bind (keeps_part65 H) fun _ => ?_
    refine keeps_bind (keeps_part66 H) fun _ => ?_
    refine keeps_bind (keeps_part67 H) fun _ => ?_
    refine keeps_bind (keeps_part68 H) fun _ => ?_
    refine keeps_bind (keeps_part69 H) fun _ => ?_
    refine keeps_bind (keeps_part70 H) fun _ => ?_
    refine keeps_bind (keeps_part71 H) fun _ => ?_
    refine keeps_bind (keeps_part72 H) fun _ => ?_
    refine keeps_bind (keeps_part73 H) fun _ => ?_
    refine keeps_bind (keeps_part74 H) fun _ => ?_
    refine keeps_bind (keeps_load H.h15) fun _ => ?_
    refine keeps_bind (keeps_load H.h15) fun _ => ?_
    refine keeps_bind (keeps_load H.h3) fun _ => ?_
    refine keeps_bind (keeps_load H.h12) fun _ => ?_
    refine keeps_bind (keeps_store H.h12) fun _ => ?_
    exact keeps_pure _
  exact keeps_pure _

end Cert.KernelLIdeal.Rec

end
-- ==== Proof.RecFrame.lean ====
/- The recurrence run over its whole grid. Nothing is said of what it computes: at every point the body finds all its
   buffers held and leaves them held, so the run ends, the arguments end as they began and every counter at zero. The
   kernel and its idealization have the same text, so the one run, written over any values, gives both frames. -/
module

public import proofs.«01_k».proof.Proof.RecParts
public import proofs.«01_k».proof.Proof.Gen.KernelL
public import proofs.«01_k».proof.Defs
public import Idealize.ShloMosaic.Lib.Claim

@[expose] public section

set_option maxRecDepth 16384

noncomputable section

namespace Cert.KernelLIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Keep Cert.KernelLIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The scratch buffers, as the body is handed them. -/
abbrev sc0 : Memref sig .tc .vmem S2x544x128 .f32 := Memref.whole cc0_scratch0
abbrev sc1 : Memref sig .tc .vmem S2x512x128 .f32 := Memref.whole cc0_scratch1
abbrev sc2 : Memref sig .tc .vmem S512x256 .f32 := Memref.whole cc0_scratch2
abbrev sc3 : Memref sig .tc .vmem S1x256 .f32 := Memref.whole cc0_scratch3

/-- Between points the scratch buffers are held at some contents. -/
theorem scratch_eq (c : Dev nD) :
    (Pipeline.ΦA spec0 c : sProp 𝕄)
      = iprop((Own c sc0 ∗ Own c sc1 ∗ Own c sc2 ∗ Own c sc3) ∗ (∃ r, prngReg c r)) := by
  unfold Pipeline.ΦA Own; rw [scopedRest0_eq]; simp only [sc0, sc1, sc2, sc3, owns_whole]; try rfl

/-- Everything held at point `t`, with what else the body carries along. -/
abbrev all (c : Dev nD) (t : Fin cfg0.N) (R : sProp 𝕄) : sProp 𝕄 :=
  iprop(Own c (st0_0 t) ∗ Own c (st0_1 t) ∗ Own c (st0_2 t) ∗ Own c (st0_3 t) ∗ Own c (st0_4 t) ∗ Own c (st0_5 t) ∗ Own c (st0_6 t) ∗ Own c (st0_7 t) ∗ Own c (st0_8 t) ∗ Own c (st0_9 t) ∗ Own c (st0_10 t) ∗ Own c (st0_11 t) ∗ Own c sc0 ∗ Own c sc1 ∗ Own c sc2 ∗ Own c sc3 ∗ R)

/-- All the body's buffers are among it. -/
theorem all_held (c : Dev nD) (t : Fin cfg0.N) (R : sProp 𝕄) :
    Held c (all c t R) (st0_0 t) (st0_1 t) (st0_2 t) (st0_3 t) (st0_4 t) (st0_5 t) (st0_6 t) (st0_7 t) (st0_8 t) (st0_9 t) (st0_10 t) (st0_11 t) sc0 sc1 sc2 sc3 where
  h2 := has_head
  h3 := has_tail (has_head)
  h4 := has_tail (has_tail (has_head))
  h5 := has_tail (has_tail (has_tail (has_head)))
  h6 := has_tail (has_tail (has_tail (has_tail (has_head))))
  h7 := has_tail (has_tail (has_tail (has_tail (has_tail (has_head)))))
  h8 := has_tail (has_tail (has_tail (has_tail (has_tail (has_tail (has_head))))))
  h9 := has_tail (has_tail (has_tail (has_tail (has_tail (has_tail (has_tail (has_head)))))))
  h10 := has_tail (has_tail (has_tail (has_tail (has_tail (has_tail (has_tail (has_tail (has_head))))))))
  h11 := has_tail (has_tail (has_tail (has_tail (has_tail (has_tail (has_tail (has_tail (has_tail (has_head)))))))))
  h12 := has_tail (has_tail (has_tail (has_tail (has_tail (has_tail (has_tail (has_tail (has_tail (has_tail (has_head))))))))))
  h13 := has_tail (has_tail (has_tail (has_tail (has_tail (has_tail (has_tail (has_tail (has_tail (has_tail (has_tail (has_head)))))))))))
  h14 := has_tail (has_tail (has_tail (has_tail (has_tail (has_tail (has_tail (has_tail (has_tail (has_tail (has_tail (has_tail (has_head))))))))))))
  h15 := has_tail (has_tail (has_tail (has_tail (has_tail (has_tail (has_tail (has_tail (has_tail (has_tail (has_tail (has_tail (has_tail (has_head)))))))))))))
  h16 := has_tail (has_tail (has_tail (has_tail (has_tail (has_tail (has_tail (has_tail (has_tail (has_tail (has_tail (has_tail (has_tail (has_tail (has_head))))))))))))))
  h17 := has_tail (has_tail (has_tail (has_tail (has_tail (has_tail (has_tail (has_tail (has_tail (has_tail (has_tail (has_tail (has_tail (has_tail (has_tail (has_head)))))))))))))))

/-- So the body runs at every point and leaves all of it held. -/
theorem point (c : Dev nD) (t : Fin cfg0.N) (R : sProp 𝕄) : Keeps (defs₀ (F := F)) c (all c t R) (bodyAt0 t) :=
  keeps_body (all_held c t R)

/-! ## The pipeline's proof data -/

/-- No window's contents are named: an input's array is what the region finds, and of what the body leaves nothing is said. -/
def dats (_ : Fin 1) (c : Dev nD) : Dat τ (Elt F) Unit ℕ (UR sig nD τ) ℕ cfg0 c where
  A w := V m c (Pipeline.arrRef spec0 w)
  after w t := fun _ => Classical.arbitrary _
  Φ t := Pipeline.ΦA spec0 c
  q _ := fullShare
  owed _ := 0

theorem A_eq (c : Dev nD) (w : Fin cfg0.W) : (dats m 0 c).A w = V m c (Pipeline.arrRef spec0 w) := by
  dsimp only [dats]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Every window forgotten, the body's obligation is to keep the buffers held. -/
theorem body_obligation (c : Dev nD) :
    BodyObligation (dats (F := F) m 0 c) (defs₀ (F := F)) Variants.none () Set.univ (fun _ => true) := fun t => by
  rw [bigSep_W0, defs₀_row]
  refine triple_restated (point c t iprop((∃ r, prngReg c r) ∗ (dats m 0 c).owesAt () t.castSucc)) rfl ?_ fun _ => ?_
  · rw [show (dats m 0 c).Φ t.castSucc = Pipeline.ΦA spec0 c from rfl, scratch_eq]
    unfold all Own
    iintro ⟨⟨⟨S0, S1, S2, S3⟩, Hg⟩, Ho, H0, H1, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [Hg]; · iexact Hg
    iexact Ho
  · rw [show (dats m 0 c).Φ t.succ = Pipeline.ΦA spec0 c from rfl, scratch_eq]
    rw [show (dats m 0 c).owesAt () t.succ = (dats m 0 c).owesAt () t.castSucc from rfl]
    unfold all Own
    iintro ⟨H0, H1, H2, H3, H4, H5, H6, H7, H8, H9, H10, H11, S0, S1, S2, S3, Hg, Ho⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-! ## The run and the frame -/

set_option backward.isDefEq.respectTransparency.types false in
/-- The run ends, with the inputs as the region found them, every buffer no window stages unchanged, and the counters at zero. -/
theorem run_main : θ_run defs (onTc (τ := τ) (main (F := F))) (s₀ m ρ) (fun r =>
    Pipeline.RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 9 rfl).trans ((A_eq m c 9).trans (V_main_arg9 m c))⟩, h.2⟩) (run_main m ρ)

end Cert.KernelLIdeal.Rec

namespace Cert.Proof

open Idealize.ShloMosaic Idealize.ShloMosaic.Tactic Idealize.SL.Sem

/-- The idealized kernel leaves its arguments and its counters as it found them. -/
theorem frame_kernelIdeal_l : Cert.quiescent_KernelLIdeal :=
  fun m ρ _ => Cert.KernelLIdeal.Rec.frame (F := Ideal) m ρ

/-- The two programs run the same bodies. -/
theorem bodies_l : Cert.KernelL.defs₀ (F := Bits) = Cert.KernelLIdeal.defs₀ (F := Bits) := by
  unfold Cert.KernelL.defs₀ Cert.KernelLIdeal.defs₀
  congr 1
  funext b args
  obtain ⟨b, hb⟩ := b
  obtain rfl : b = 0 := by omega
  obtain ⟨t, s⟩ := args
  sl_kernel_rfl

/-- Their tables of bodies and pipelines are the same. -/
theorem tables_l : Cert.KernelL.defs (F := Bits) = Cert.KernelLIdeal.defs (F := Bits) :=
  congrArg (Idealize.ShloMosaic.Pipeline.defs Cert.KernelLIdeal.pcfgs) bodies_l

/-- The kernel leaves its arguments and its counters as it found them. -/
theorem frame_kernel_l : Cert.quiescent_KernelL := by
  intro m ρ _
  rw [tables_l]
  exact Cert.KernelLIdeal.Rec.frame (F := Bits) m ρ

end Cert.Proof

end
-- ==== Proof.AttnTile.lean ====
/- One tile of the banded attention as the kernel computes it: 128 queries of one block, two heads that share a key
   head, against the 256 keys of the block before and of their own block. -/
module

public import proofs.«01_k».proof.Proof.Gen.KernelIdeal.Skeleton
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

/-- The lanes of the first of the two heads that share a 128-lane column block. -/
def lowQ : IVec S128x128 1 := cmpi .slt (iota .tc S128x128 32 [1] iota_S128x128_d1_w32) (broadcast S128x128 64#32)

/-- The same lanes of the 256 key rows. -/
def lowKv : IVec S256x128 1 := cmpi .slt (iota .tc S256x128 32 [1] iota_S256x128_d1_w32) (broadcast S256x128 64#32)

/-- The keys (or values) of the block before, then the block's own. -/
def rows (prev own : FVec Ideal S128x128 .bf16) : FVec Ideal S256x128 .bf16 :=
  concatenate S256x128 0 [⟨S128x128, prev⟩, ⟨S128x128, own⟩] concatenates_S128x128_S128x128_S256x128_d0

/-- The two halves of the lanes exchanged. -/
def swapped (x : FVec Ideal S256x128 .bf16) : FVec Ideal S256x128 .bf16 :=
  concatenate S256x128 1 [⟨S256x64, extractStridedSlice S256x64 ![0, 64] x slices_S256x128_o0_64_S256x64⟩,
    ⟨S256x64, extractStridedSlice S256x64 ![0, 0] x slices_S256x128_o0_0_S256x64⟩] concatenates_S256x64_S256x64_S256x128_d1

/-- The first head's lanes in both halves. -/
def even (x : FVec Ideal S256x128 .bf16) : FVec Ideal S256x128 .bf16 := select lowKv x (swapped x)

/-- The second head's lanes in both halves. -/
def odd (x : FVec Ideal S256x128 .bf16) : FVec Ideal S256x128 .bf16 := select lowKv (swapped x) x

/-- The zero lanes. -/
def zeroQ : FVec Ideal S128x128 .bf16 := broadcast S128x128 (Scalar.ofBits .bf16 0x0000#16)

/-- The first head of a pair, the second head's lanes zeroed. -/
def first (q : FVec Ideal S128x128 .bf16) : FVec Ideal S128x128 .bf16 := select lowQ q zeroQ

/-- The second head of a pair, the first head's lanes zeroed. -/
def second (q : FVec Ideal S128x128 .bf16) : FVec Ideal S128x128 .bf16 := select lowQ zeroQ q

/-- Eight blocks of 128 lanes, one under the other. -/
def pile128 (w0 w1 w2 w3 w4 w5 w6 w7 : FVec Ideal S128x128 .bf16) : FVec Ideal S1024x128 .bf16 :=
  concatenate S1024x128 0 [⟨S128x128, w0⟩, ⟨S128x128, w1⟩, ⟨S128x128, w2⟩, ⟨S128x128, w3⟩, ⟨S128x128, w4⟩, ⟨S128x128, w5⟩,
    ⟨S128x128, w6⟩, ⟨S128x128, w7⟩]
    concatenates_S128x128_S128x128_S128x128_S128x128_S128x128_S128x128_S128x128_S128x128_S1024x128_d0

/-- Eight blocks of 256 lanes, one under the other. -/
def pile256 (w0 w1 w2 w3 w4 w5 w6 w7 : FVec Ideal S128x256 .bf16) : FVec Ideal S1024x256 .bf16 :=
  concatenate S1024x256 0 [⟨S128x256, w0⟩, ⟨S128x256, w1⟩, ⟨S128x256, w2⟩, ⟨S128x256, w3⟩, ⟨S128x256, w4⟩, ⟨S128x256, w5⟩,
    ⟨S128x256, w6⟩, ⟨S128x256, w7⟩]
    concatenates_S128x256_S128x256_S128x256_S128x256_S128x256_S128x256_S128x256_S128x256_S1024x256_d0

/-- The eight heads' queries, one under the other. -/
def stack (q0 q1 q2 q3 : FVec Ideal S128x128 .bf16) : FVec Ideal S1024x128 .bf16 :=
  pile128 (first q0) (second q0) (first q1) (second q1) (first q2) (second q2) (first q3) (second q3)

/-- The scores of the eight heads against the keys. -/
def scores (q0 q1 q2 q3 : FVec Ideal S128x128 .bf16) (k : FVec Ideal S256x128 .bf16) : FVec Ideal S1024x256 .f32 :=
  matmul dot_S1024x128_S256x128_S1024x256_1_1_0_0_n_n none (stack q0 q1 q2 q3)
    (mulf k (broadcast S256x128 (Scalar.ofBits .bf16 0x3E00#16))) (constant S1024x256 .f32 0x00000000#32)

/-- One head's scores, minus infinity where the mask is off. -/
def masked (v : IVec S128x256 1) (s : FVec Ideal S128x256 .f32) : FVec Ideal S128x256 .f32 :=
  select v s (broadcast S128x256 (Scalar.ofBits .f32 0xFF800000#32))

/-- The largest of a row's masked scores and the sink. -/
def top (x : FVec Ideal S128x256 .f32) (sink : Ideal .f32) : FVec Ideal S128x1 .f32 :=
  maximumf (shapeCast S128x1 (multiReduction .maximumf [1] S128 x 0xFF800000#32 reduces_S128x256_S128 (.inl rfl) rfl)
    shapeCasts_S128_S128x1) (broadcast S128x1 sink)

/-- The exponentials of a row, not yet divided. -/
def expo (x : FVec Ideal S128x256 .f32) (sink : Ideal .f32) : FVec Ideal S128x256 .f32 :=
  exp (subf x (broadcastTo S128x256 (top x sink) broadcasts_S128x1_S128x256))

/-- One over the row's sum, the sink's exponential counted. -/
def inv (x : FVec Ideal S128x256 .f32) (sink : Ideal .f32) : FVec Ideal S128x1 .f32 :=
  divf (broadcast S128x1 (Scalar.ofBits .f32 0x3F800000#32))
    (addf (shapeCast S128x1 (multiReduction .add [1] S128 (expo x sink) 0x00000000#32 reduces_S128x256_S128 (.inl rfl) rfl)
      shapeCasts_S128_S128x1) (exp (subf (broadcast S128x1 sink) (top x sink))))

/-- The weights that multiply the values. -/
def weights (x : FVec Ideal S128x256 .f32) (sink : Ideal .f32) : FVec Ideal S128x256 .bf16 :=
  truncf .bf16 (expo x sink) bitsLt_bf16_f32

/-- The eight heads' weighted values, one under the other. -/
def outs (w0 w1 w2 w3 w4 w5 w6 w7 : FVec Ideal S128x256 .bf16) (v : FVec Ideal S256x128 .bf16) : FVec Ideal S1024x128 .f32 :=
  matmul dot_S1024x256_S256x128_S1024x128_1_0_0_1_n_n none
    (pile256 w0 w1 w2 w3 w4 w5 w6 w7)
    v (constant S1024x128 .f32 0x00000000#32)

/-- A pair's two heads divided, laid side by side and gated. -/
def gated (a b : FVec Ideal S128x128 .f32) (ia ib : FVec Ideal S128x1 .f32) (sg : FVec Ideal S128x128 .f32) :
    FVec Ideal S128x128 .bf16 :=
  truncf .bf16 (mulf (select lowQ (mulf a (broadcastTo S128x128 ia broadcasts_S128x1_S128x128))
    (mulf b (broadcastTo S128x128 ib broadcasts_S128x1_S128x128))) sg) bitsLt_bf16_f32

/-- A slice of the eight heads' scores is one head's. -/
theorem slicesS (g : Fin 8) : S1024x256.Slices ![128 * g.val, 0] S128x256 := by
  revert g; decide

/-- A slice of the eight heads' weighted values is one head's. -/
theorem slicesO (g : Fin 8) : S1024x128.Slices ![128 * g.val, 0] S128x128 := by
  revert g; decide

/-- One head's masked scores. -/
def sc (v : IVec S128x256 1) (s : FVec Ideal S1024x256 .f32) (o : Nat) (h : S1024x256.Slices ![o, 0] S128x256) :
    FVec Ideal S128x256 .f32 :=
  masked v (extractStridedSlice S128x256 ![o, 0] s h)

/-- The tile of pair `p`: its two heads' weighted values from the eight heads' stacked product. -/
def tile (v : IVec S128x256 1) (q0 q1 q2 q3 : FVec Ideal S128x128 .bf16) (k x : FVec Ideal S256x128 .bf16)
    (s0 s1 s2 s3 s4 s5 s6 s7 : Ideal .f32) (oa ob : Nat) (ha : S1024x128.Slices ![oa, 0] S128x128)
    (hb : S1024x128.Slices ![ob, 0] S128x128) (ha' : S1024x256.Slices ![oa, 0] S128x256)
    (hb' : S1024x256.Slices ![ob, 0] S128x256) (sa sb : Ideal .f32) (sg : FVec Ideal S128x128 .f32) : FVec Ideal S128x128 .bf16 :=
  let s := scores q0 q1 q2 q3 k
  let o := outs (weights (sc v s 0 (slicesS 0)) s0) (weights (sc v s 128 (slicesS 1)) s1) (weights (sc v s 256 (slicesS 2)) s2)
    (weights (sc v s 384 (slicesS 3)) s3) (weights (sc v s 512 (slicesS 4)) s4) (weights (sc v s 640 (slicesS 5)) s5)
    (weights (sc v s 768 (slicesS 6)) s6) (weights (sc v s 896 (slicesS 7)) s7) x
  gated (extractStridedSlice S128x128 ![oa, 0] o ha) (extractStridedSlice S128x128 ![ob, 0] o hb)
    (inv (sc v s oa ha') sa) (inv (sc v s ob hb') sb) sg

/-- A lane below 64 is the first head's. -/
theorem low_lane (c : Fin 128) : IntOp.cmpi CmpIPredicate.slt (BitVec.ofNat 32 c.val) 64#32 = if c.val < 64 then 1#1 else 0#1 := by
  revert c; decide +kernel

set_option maxHeartbeats 1600000 in
/-- Eight blocks of 256 lanes one under the other, read in block `g`. -/
theorem pile256_at (w : Fin 8 → FVec Ideal S128x256 .bf16) (g : Fin 8) (r : Fin 128) (i : Fin 1024) (hi : i.val = 128 * g.val + r.val)
    (x : Fin 256) : pile256 (w 0) (w 1) (w 2) (w 3) (w 4) (w 5) (w 6) (w 7) (ix2 i x) = w g (ix2 r x) := by
  unfold pile256
  have key : ∀ k : Fin 8, ∃ hk : k.val < 8, ([⟨S128x256, w 0⟩, ⟨S128x256, w 1⟩, ⟨S128x256, w 2⟩, ⟨S128x256, w 3⟩, ⟨S128x256, w 4⟩, ⟨S128x256, w 5⟩,
      ⟨S128x256, w 6⟩, ⟨S128x256, w 7⟩] : List ((s : Shape) × (s.Idx → Ideal .bf16)))[k.val]'hk = ⟨S128x256, w k⟩ := by
    intro k; fin_cases k <;> exact ⟨by decide, rfl⟩
  obtain ⟨hk, e⟩ := key g
  refine concatenate_apply_piece (t := S1024x256) 0 _ _ (ix2 i x) g.val (by exact hk) S128x256 (w g) e rfl (128 * g.val) ?_ (ix2 r x) ?_ ?_
  · clear e hi; fin_cases g <;> rfl
  · intro b hb
    match b with
    | ⟨0, _⟩ => exact absurd rfl hb
    | ⟨1, _⟩ => rfl
  · exact hi.symm

set_option maxHeartbeats 1600000 in
/-- Eight blocks of 128 lanes one under the other, read in block `g`. -/
theorem pile128_at (w : Fin 8 → FVec Ideal S128x128 .bf16) (g : Fin 8) (r : Fin 128) (i : Fin 1024) (hi : i.val = 128 * g.val + r.val)
    (x : Fin 128) : pile128 (w 0) (w 1) (w 2) (w 3) (w 4) (w 5) (w 6) (w 7) (ix2 i x) = w g (ix2 r x) := by
  unfold pile128
  have key : ∀ k : Fin 8, ∃ hk : k.val < 8, ([⟨S128x128, w 0⟩, ⟨S128x128, w 1⟩, ⟨S128x128, w 2⟩, ⟨S128x128, w 3⟩, ⟨S128x128, w 4⟩, ⟨S128x128, w 5⟩,
      ⟨S128x128, w 6⟩, ⟨S128x128, w 7⟩] : List ((s : Shape) × (s.Idx → Ideal .bf16)))[k.val]'hk = ⟨S128x128, w k⟩ := by
    intro k; fin_cases k <;> exact ⟨by decide, rfl⟩
  obtain ⟨hk, e⟩ := key g
  refine concatenate_apply_piece (t := S1024x128) 0 _ _ (ix2 i x) g.val (by exact hk) S128x128 (w g) e rfl (128 * g.val) ?_ (ix2 r x) ?_ ?_
  · clear e hi; fin_cases g <;> rfl
  · intro b hb
    match b with
    | ⟨0, _⟩ => exact absurd rfl hb
    | ⟨1, _⟩ => rfl
  · exact hi.symm

/-- The first head's lane `c` mod 64 in either half. -/
theorem even_at (a : FVec Ideal S256x128 .bf16) (j : Fin 256) (c : Fin 128) (c' : Fin 128) (h : c'.val = c.val % 64) :
    even a (ix2 j c) = a (ix2 j c') := by
  pointwise [even, lowKv, swapped]
  rw [low_lane]
  have := c.isLt
  by_cases hc : c.val < 64
  · rw [if_pos hc, show c' = c from Fin.ext (by omega)]; rfl
  · rw [if_neg hc, dif_neg hc]
    show a _ = _
    congr 2; apply Fin.ext; dsimp only; omega

/-- The second head's lane `c` mod 64 in either half. -/
theorem odd_at (a : FVec Ideal S256x128 .bf16) (j : Fin 256) (c : Fin 128) (c' : Fin 128) (h : c'.val = 64 + c.val % 64) :
    odd a (ix2 j c) = a (ix2 j c') := by
  pointwise [odd, lowKv, swapped]
  rw [low_lane]
  have := c.isLt
  by_cases hc : c.val < 64
  · rw [if_pos hc, dif_pos hc]
    show a _ = _
    congr 2; apply Fin.ext; dsimp only; omega
  · rw [if_neg hc, show c' = c from Fin.ext (by omega)]; rfl

/-- A pair's tile: lanes below 64 are the first head's. -/
theorem gated_at (a b : FVec Ideal S128x128 .f32) (ia ib : FVec Ideal S128x1 .f32) (sg : FVec Ideal S128x128 .f32) (r c : Fin 128) :
    gated a b ia ib sg (ix2 r c) = (if c.val < 64 then a (ix2 r c) * ia (ix2 r 0) else b (ix2 r c) * ib (ix2 r 0)) * sg (ix2 r c) := by
  pointwise [gated, lowQ]
  simp only [low_lane]
  by_cases hc : c.val < 64
  · simp only [hc, if_true]; rfl
  · simp only [hc, if_false]; rfl

/-- One head's weighted values. -/
theorem outs_slice (w : Fin 8 → FVec Ideal S128x256 .bf16) (v : FVec Ideal S256x128 .bf16) (g : Fin 8) (h) (r c : Fin 128) :
    extractStridedSlice S128x128 ![128 * g.val, 0] (outs (w 0) (w 1) (w 2) (w 3) (w 4) (w 5) (w 6) (w 7) v) h (ix2 r c) =
    ∑ j : Fin 256, w g (ix2 r j) * v (ix2 j c) := by
  pointwise [outs]
  refine Finset.sum_congr rfl fun j _ => ?_
  rw [pile256_at w g r _ rfl]

/-- The first head's queries. -/
theorem first_at (q : FVec Ideal S128x128 .bf16) (r c : Fin 128) : first q (ix2 r c) = if c.val < 64 then q (ix2 r c) else 0 := by
  pointwise [first, lowQ, zeroQ]
  simp only [low_lane]
  by_cases hc : c.val < 64
  · simp only [hc, if_true]; rfl
  · simp only [hc, if_false]; rfl

/-- The second head's queries. -/
theorem second_at (q : FVec Ideal S128x128 .bf16) (r c : Fin 128) : second q (ix2 r c) = if c.val < 64 then 0 else q (ix2 r c) := by
  pointwise [second, lowQ, zeroQ]
  simp only [low_lane]
  by_cases hc : c.val < 64
  · simp only [hc, if_true]; rfl
  · simp only [hc, if_false]; rfl

/-- One eighth, as the kernel's word. -/
theorem eighth_bf16 : Ideal.ofBits .bf16 0x3E00#16 = ((1 / 8 : ℝ) : EReal) := by
  simp [Ideal.ofBits, Ideal.ieee, -EReal.coe_mul]; norm_num

/-- One head's scores. -/
theorem scores_slice (q0 q1 q2 q3 : FVec Ideal S128x128 .bf16) (k : FVec Ideal S256x128 .bf16) (g : Fin 8) (h) (r : Fin 128) (j : Fin 256) :
    extractStridedSlice S128x256 ![128 * g.val, 0] (scores q0 q1 q2 q3 k) h (ix2 r j) =
    ∑ c : Fin 128, (![first q0, second q0, first q1, second q1, first q2, second q2, first q3, second q3] g) (ix2 r c) * (k (ix2 j c) * ((1 / 8 : ℝ) : EReal)) := by
  pointwise [scores, stack]
  refine Finset.sum_congr rfl fun j _ => ?_
  rw [← eighth_bf16, ← pile128_at ![first q0, second q0, first q1, second q1, first q2, second q2, first q3, second q3] g r ⟨128 * g.val + r.val, by omega⟩ rfl]
  rfl

end Cert.KernelIdeal.Tile

end
-- ==== Proof.AttnRow.lean ====
/- One row of attention over extended reals: weights that are exponentials of the scores less the row's largest, divided
   by their sum with the sink's exponential. Dividing the weighted sum once is the same as dividing every weight, because the
   sum is a positive real when the scores are below plus infinity, one of them is finite and the sink is below plus infinity. -/
module

public import Idealize.ShloMosaic.Lib.Pipeline.ValueKit

@[expose] public section

noncomputable section

namespace Cert.Row

open Idealize.ShloMosaic

/-- The largest of a row's scores and the sink. -/
def top (X : Fin 256 → EReal) (s : EReal) : EReal := max (Finset.univ.fold max ⊥ X) s

/-- The sum of a row's exponentials, the sink's counted. -/
def total (X : Fin 256 → EReal) (s : EReal) : EReal := (∑ j, Ideal.exp (X j - top X s)) + Ideal.exp (s - top X s)

/-- The weighted sum, divided once. -/
def attend (X : Fin 256 → EReal) (s : EReal) (V : Fin 256 → EReal) : EReal :=
  (∑ j, Ideal.exp (X j - top X s) * V j) * Ideal.div 1 (total X s)

/-- The weighted sum, every weight divided. -/
def attendEach (X : Fin 256 → EReal) (s : EReal) (V : Fin 256 → EReal) : EReal :=
  ∑ j, V j * Ideal.div (Ideal.exp (X j - top X s)) (total X s)

theorem le_fold (X : Fin 256 → EReal) (j : Fin 256) : X j ≤ Finset.univ.fold max ⊥ X :=
  (Finset.le_fold_max _).mpr (Or.inr ⟨j, Finset.mem_univ j, le_rfl⟩)

theorem fold_lt_top (X : Fin 256 → EReal) (h : ∀ j, X j ≠ ⊤) : Finset.univ.fold max ⊥ X < ⊤ :=
  (Finset.fold_max_lt _).mpr ⟨bot_lt_top, fun j _ => lt_top_iff_ne_top.mpr (h j)⟩

theorem exp_nonneg (x : EReal) : 0 ≤ Ideal.exp x := by
  induction x with
  | bot => exact le_refl (0 : EReal)
  | top => exact (le_top : (0 : EReal) ≤ ⊤)
  | coe r => exact EReal.coe_nonneg.mpr (Real.exp_nonneg r)

theorem exp_ne_top (x : EReal) (h : x ≠ ⊤) : Ideal.exp x ≠ ⊤ := by
  induction x with
  | bot => exact EReal.zero_ne_top
  | top => exact absurd rfl h
  | coe r => exact EReal.coe_ne_top (Real.exp r)

theorem exp_pos (x : EReal) (h : x ≠ ⊥) : 0 < Ideal.exp x := by
  induction x with
  | bot => exact absurd rfl h
  | top => exact EReal.zero_lt_top
  | coe r => exact EReal.coe_pos.mpr (Real.exp_pos r)

theorem exp_bot : Ideal.exp ⊥ = 0 := rfl

theorem sum_ne_top {ι : Type} (s : Finset ι) (f : ι → EReal) (h0 : ∀ i, 0 ≤ f i) (h : ∀ i, f i ≠ ⊤) : ∑ i ∈ s, f i ≠ ⊤ := by
  classical
  induction s using Finset.induction_on with
  | empty => simp
  | insert a s ha ih => rw [Finset.sum_insert ha]; exact (EReal.add_lt_top (h a) ih).ne

theorem sum_mul_real {ι : Type} (s : Finset ι) (f : ι → EReal) (d : EReal) (h0 : 0 ≤ d) (h : d ≠ ⊤) :
    (∑ i ∈ s, f i) * d = ∑ i ∈ s, f i * d := by
  classical
  induction s using Finset.induction_on with
  | empty => simp
  | insert a s ha ih => rw [Finset.sum_insert ha, Finset.sum_insert ha, EReal.right_distrib_of_nonneg_of_ne_top h0 h, ih]

/-- The two orders of dividing agree, whatever the values that meet a zero weight. -/
theorem attend_eq (X : Fin 256 → EReal) (s : EReal) (V V' : Fin 256 → EReal) (hX : ∀ j, X j ≠ ⊤) (k : Fin 256) (hk : X k ≠ ⊥)
    (hs : s ≠ ⊤) (hV : ∀ j, X j ≠ ⊥ → V' j = V j) : attend X s V = attendEach X s V' := by
  unfold attend attendEach
  have hM : top X s ≠ ⊤ := (max_lt (fold_lt_top X hX) (lt_top_iff_ne_top.mpr hs)).ne
  have hM' : top X s ≠ ⊥ := by
    have : ⊥ < top X s := lt_of_lt_of_le (bot_lt_iff_ne_bot.mpr hk) ((le_fold X k).trans (le_max_left _ _))
    exact this.ne'
  have below : ∀ x : EReal, x ≠ ⊤ → x - top X s ≠ ⊤ := by
    intro x hx
    lift top X s to ℝ using ⟨hM, hM'⟩ with M
    induction x with
    | bot => simp
    | top => exact absurd rfl hx
    | coe r => rw [← EReal.coe_sub]; exact EReal.coe_ne_top _
  have above : ∀ x : EReal, x ≠ ⊥ → x - top X s ≠ ⊥ := by
    intro x hx
    lift top X s to ℝ using ⟨hM, hM'⟩ with M
    induction x with
    | bot => exact absurd rfl hx
    | top => simp
    | coe r => rw [← EReal.coe_sub]; exact EReal.coe_ne_bot _
  have hT : total X s ≠ ⊤ :=
    (EReal.add_lt_top (sum_ne_top _ _ (fun _ => exp_nonneg _) fun j => exp_ne_top _ (below _ (hX j))) (exp_ne_top _ (below _ hs))).ne
  have hP : 0 < total X s := by
    have h1 : Ideal.exp (X k - top X s) ≤ ∑ j, Ideal.exp (X j - top X s) :=
      Finset.single_le_sum (f := fun j => Ideal.exp (X j - top X s)) (fun j _ => exp_nonneg _) (Finset.mem_univ k)
    have h2 : Ideal.exp (X k - top X s) ≤ total X s := h1.trans (le_add_of_nonneg_right (exp_nonneg _))
    exact lt_of_lt_of_le (exp_pos _ (above _ hk)) h2
  have hD : ∀ x, Ideal.div x (total X s) = x * (total X s)⁻¹ := fun x => by
    unfold Ideal.div; rw [if_neg hP.ne']
  have h0 : 0 ≤ (total X s)⁻¹ := EReal.inv_nonneg_of_nonneg hP.le
  have h1 : (total X s)⁻¹ ≠ ⊤ := by
    lift total X s to ℝ using ⟨hT, (EReal.bot_lt_zero.trans hP).ne'⟩ with D
    rw [← EReal.coe_inv]; exact EReal.coe_ne_top _
  rw [hD, one_mul, sum_mul_real _ _ _ h0 h1]
  refine Finset.sum_congr rfl fun j _ => ?_
  rw [hD]
  by_cases hj : X j = ⊥
  · rw [hj, EReal.bot_sub, exp_bot]; simp
  · rw [hV j hj, mul_comm (Ideal.exp _) (V j), mul_assoc]

/-- A finite real factor moved out of a sum. -/
theorem sum_factor {n : Nat} (q k : Fin n → EReal) (d : EReal) (h0 : 0 ≤ d) (h : d ≠ ⊤) :
    ∑ i, q i * (k i * d) = (∑ i, k i * q i) * d := by
  rw [sum_mul_real _ _ _ h0 h]
  refine Finset.sum_congr rfl fun i _ => ?_
  rw [← mul_assoc, mul_comm (q i) (k i)]

/-- A sum of products of finite numbers is finite. -/
theorem sum_real {n : Nat} (q k : Fin n → EReal) (d : ℝ) (hq : ∀ i, q i ≠ ⊤ ∧ q i ≠ ⊥) (hk : ∀ i, k i ≠ ⊤ ∧ k i ≠ ⊥) :
    ∃ x : ℝ, ∑ i, q i * (k i * (d : EReal)) = (x : EReal) := by
  have term : ∀ i, ∃ x : ℝ, q i * (k i * (d : EReal)) = (x : EReal) := fun i =>
    ⟨(q i).toReal * ((k i).toReal * d), by
      rw [EReal.coe_mul, EReal.coe_mul, EReal.coe_toReal (hq i).1 (hq i).2, EReal.coe_toReal (hk i).1 (hk i).2]⟩
  classical
  induction (Finset.univ : Finset (Fin n)) using Finset.induction_on with
  | empty => exact ⟨0, by simp⟩
  | insert a s ha ih =>
    obtain ⟨x, hx⟩ := ih
    obtain ⟨y, hy⟩ := term a
    exact ⟨y + x, by rw [Finset.sum_insert ha, hx, hy, EReal.coe_add]⟩

end Cert.Row

end
-- ==== Proof.AttnTileAt.lean ====
/- A tile of the attention kernel read at an index: the two heads of a pair, each attended over its 256 keys. -/
module

public import proofs.«01_k».proof.Proof.AttnTile
public import proofs.«01_k».proof.Proof.AttnRow

@[expose] public section

set_option maxRecDepth 16384

noncomputable section

namespace Cert.KernelIdeal.Tile

open Cert.KernelIdeal Cert.KernelIdeal.Gen Idealize.ShloMosaic Idealize.ShloMosaic.TcCoe Idealize.SL.Sem

/-- Minus infinity, as the word. -/
theorem minus_inf : Ideal.ofBits .f32 0xFF800000#32 = ⊥ := by
  simp [Ideal.ofBits, Ideal.ieee]

/-- A row's weights. -/
theorem weights_at (x : FVec Ideal S128x256 .f32) (s : Ideal .f32) (r : Fin 128) (j : Fin 256) :
    weights x s (ix2 r j) = Ideal.exp (x (ix2 r j) - Row.top (fun j => x (ix2 r j)) s) := by
  pointwise [weights, expo, top]
  rw [minus_inf]; rfl

/-- One over a row's total. -/
theorem inv_at (x : FVec Ideal S128x256 .f32) (s : Ideal .f32) (r : Fin 128) :
    inv x s (ix2 r 0) = Ideal.div 1 (Row.total (fun j => x (ix2 r j)) s) := by
  pointwise [inv, expo, top]
  rw [minus_inf]; rfl

/-- One head of a pair: the sum over its 64 lanes. -/
theorem half_sum (e : Nat) (f : Fin 128 → EReal) (he : e = 0 ∨ e = 1) (h0 : ∀ c : Fin 128, c.val / 64 ≠ e → f c = 0) :
    ∑ c, f c = ∑ d : Fin 64, f ⟨64 * e + d.val, by omega⟩ := by
  have split : ∑ c, f c = (∑ d : Fin 64, f ⟨d.val, by omega⟩) + ∑ d : Fin 64, f ⟨64 + d.val, by omega⟩ :=
    Fin.sum_univ_add (a := 64) (b := 64) f
  rw [split]
  rcases he with rfl | rfl
  · rw [Finset.sum_eq_zero (s := Finset.univ) (f := fun d : Fin 64 => f ⟨64 + d.val, by omega⟩) fun d _ => h0 _ (by dsimp only; omega), add_zero]
    refine Finset.sum_congr rfl fun d _ => ?_
    congr 1; apply Fin.ext; dsimp only; omega
  · rw [Finset.sum_eq_zero (s := Finset.univ) (f := fun d : Fin 64 => f ⟨d.val, by omega⟩) fun d _ => h0 _ (by dsimp only; omega), zero_add]

/-- One head's masked scores at an index. -/
theorem sc_at (v : IVec S128x256 1) (q0 q1 q2 q3 : FVec Ideal S128x128 .bf16) (k : FVec Ideal S256x128 .bf16) (p : Fin 4) (e : Nat)
    (he : e = 0 ∨ e = 1) (o : Nat) (ho : o = 128 * (2 * p.val + e)) (h) (r : Fin 128) (j : Fin 256) (Q : Fin 128 → EReal)
    (K : Fin 256 → Fin 64 → EReal) (hq : ∀ c, ![q0, q1, q2, q3] p (ix2 r c) = Q c)
    (hk : ∀ j (c : Fin 128), k (ix2 j c) = K j ⟨c.val % 64, by omega⟩) :
    sc v (scores q0 q1 q2 q3 k) o h (ix2 r j)
      = if v (ix2 r j) = 1#1 then ∑ d : Fin 64, Q ⟨64 * e + d.val, by omega⟩ * (K j d * ((1 / 8 : ℝ) : EReal)) else ⊥ := by
  have hg : 2 * p.val + e < 8 := by omega
  obtain rfl : o = 128 * (⟨2 * p.val + e, hg⟩ : Fin 8).val := ho
  have key : extractStridedSlice S128x256 ![128 * (⟨2 * p.val + e, hg⟩ : Fin 8).val, 0] (scores q0 q1 q2 q3 k) h (ix2 r j)
      = ∑ d : Fin 64, Q ⟨64 * e + d.val, by omega⟩ * (K j d * ((1 / 8 : ℝ) : EReal)) := by
    rw [scores_slice]
    have pick : ∀ c : Fin 128, ![first q0, second q0, first q1, second q1, first q2, second q2, first q3, second q3] ⟨2 * p.val + e, hg⟩ (ix2 r c)
        = if c.val / 64 = e then Q c else 0 := by
      intro c
      rw [← hq c]
      rcases he with rfl | rfl
      · have := first_at (![q0, q1, q2, q3] p) r c
        have e1 : (if c.val / 64 = 0 then (![q0, q1, q2, q3] p) (ix2 r c) else (0 : EReal)) = if c.val < 64 then (![q0, q1, q2, q3] p) (ix2 r c) else 0 := by
          split_ifs <;> first | rfl | omega
        refine Eq.trans ?_ (this.trans e1.symm)
        fin_cases p <;> rfl
      · have := second_at (![q0, q1, q2, q3] p) r c
        have e1 : (if c.val / 64 = 1 then (![q0, q1, q2, q3] p) (ix2 r c) else (0 : EReal)) = if c.val < 64 then 0 else (![q0, q1, q2, q3] p) (ix2 r c) := by
          split_ifs <;> first | rfl | omega
        refine Eq.trans ?_ (this.trans e1.symm)
        fin_cases p <;> rfl
    rw [half_sum e _ he fun c hc => by rw [pick, if_neg hc, zero_mul]]
    refine Finset.sum_congr rfl fun d _ => ?_
    rw [pick, if_pos (by dsimp only; rcases he with rfl | rfl <;> omega), hk]
    congr 3; apply Fin.ext; dsimp only; rcases he with rfl | rfl <;> omega
  unfold sc
  rw [← key, ← minus_inf]
  generalize extractStridedSlice S128x256 _ (scores q0 q1 q2 q3 k) h = y
  pointwise [masked]
  rfl

/-- A tile at an index: the head that the lane belongs to, attended and gated. -/
theorem tile_at (v : IVec S128x256 1) (q0 q1 q2 q3 : FVec Ideal S128x128 .bf16) (k x : FVec Ideal S256x128 .bf16)
    (s0 s1 s2 s3 s4 s5 s6 s7 : Ideal .f32) (oa ob : Nat) (ha hb ha' hb') (sa sb : Ideal .f32) (sg : FVec Ideal S128x128 .f32)
    (p : Fin 4) (ea : oa = 128 * (2 * p.val + 0)) (eb : ob = 128 * (2 * p.val + 1))
    (hsa : sa = ![s0, s1, s2, s3, s4, s5, s6, s7] ⟨2 * p.val + 0, by omega⟩) (hsb : sb = ![s0, s1, s2, s3, s4, s5, s6, s7] ⟨2 * p.val + 1, by omega⟩)
    (r c : Fin 128) (Q : Fin 128 → EReal) (K W : Fin 256 → Fin 64 → EReal) (hq : ∀ c, ![q0, q1, q2, q3] p (ix2 r c) = Q c)
    (hk : ∀ j (c : Fin 128), k (ix2 j c) = K j ⟨c.val % 64, by omega⟩)
    (hx : ∀ j (c : Fin 128), x (ix2 j c) = W j ⟨c.val % 64, by omega⟩) :
    tile v q0 q1 q2 q3 k x s0 s1 s2 s3 s4 s5 s6 s7 oa ob ha hb ha' hb' sa sb sg (ix2 r c)
      = Row.attend (fun j => if v (ix2 r j) = 1#1 then
            ∑ d : Fin 64, Q ⟨64 * (c.val / 64) + d.val, by omega⟩ * (K j d * ((1 / 8 : ℝ) : EReal)) else ⊥)
          (if c.val < 64 then sa else sb) (fun j => W j ⟨c.val % 64, by omega⟩) * sg (ix2 r c) := by
  have outA : ∀ (e : Nat) (he : e = 0 ∨ e = 1) (o : Nat) (ho : o = 128 * (2 * p.val + e)) (h) (h' : S1024x256.Slices ![o, 0] S128x256) (s : Ideal .f32)
      (hs : s = ![s0, s1, s2, s3, s4, s5, s6, s7] ⟨2 * p.val + e, by omega⟩),
      extractStridedSlice S128x128 ![o, 0] (outs (weights (sc v (scores q0 q1 q2 q3 k) 0 (slicesS 0)) s0) (weights (sc v (scores q0 q1 q2 q3 k) 128 (slicesS 1)) s1) (weights (sc v (scores q0 q1 q2 q3 k) 256 (slicesS 2)) s2)
    (weights (sc v (scores q0 q1 q2 q3 k) 384 (slicesS 3)) s3) (weights (sc v (scores q0 q1 q2 q3 k) 512 (slicesS 4)) s4) (weights (sc v (scores q0 q1 q2 q3 k) 640 (slicesS 5)) s5)
    (weights (sc v (scores q0 q1 q2 q3 k) 768 (slicesS 6)) s6) (weights (sc v (scores q0 q1 q2 q3 k) 896 (slicesS 7)) s7) x) h (ix2 r c)
        = ∑ j : Fin 256, weights (sc v (scores q0 q1 q2 q3 k) o h') s (ix2 r j) * x (ix2 j c) := by
    intro e he o ho h h' s hs
    have hg : 2 * p.val + e < 8 := by omega
    obtain rfl : o = 128 * (⟨2 * p.val + e, hg⟩ : Fin 8).val := ho
    have := outs_slice (fun g => weights (sc v (scores q0 q1 q2 q3 k) (128 * g.val) (slicesS g)) (![s0, s1, s2, s3, s4, s5, s6, s7] g)) x ⟨2 * p.val + e, hg⟩ h r c
    rw [hs]
    exact this
  unfold tile
  rw [gated_at]
  unfold Row.attend
  by_cases hc : c.val < 64
  · have hc' : c.val / 64 = 0 := by omega
    rw [if_pos hc, if_pos hc, outA 0 (Or.inl rfl) oa ea ha ha' sa hsa]
    simp only [weights_at, inv_at, sc_at v q0 q1 q2 q3 k p 0 (Or.inl rfl) oa ea ha' r _ Q K hq hk, hx, hc']
  · have hc' : c.val / 64 = 1 := by omega
    rw [if_neg hc, if_neg hc, outA 1 (Or.inr rfl) ob eb hb hb' sb hsb]
    simp only [weights_at, inv_at, sc_at v q0 q1 q2 q3 k p 1 (Or.inr rfl) ob eb hb' r _ Q K hq hk, hx, hc']

end Cert.KernelIdeal.Tile

end
-- ==== Proof.AttnSeen.lean ====
/- Which keys of its 256 a query row sees, and that question asked of 32-bit words. -/
module

public import Idealize.ShloMosaic.Lib.Pipeline.ValueKit

@[expose] public section

set_option maxRecDepth 16384

noncomputable section

namespace Cert.Row
open Idealize.ShloMosaic Idealize.ShloMosaic.TcCoe Idealize.SL.Sem

/-- Whether query row `r` of block `n` sees key `j` of its 256: at most 127 rows back, not ahead, and for the first block
not in the block before. -/
def Seen (n r j : Nat) : Prop := (r < j ∧ j ≤ r + 128) ∧ (128 ≤ j ∨ n ≠ 0)

/-- Whether a key is seen can be decided. -/
instance (n r j : Nat) : Decidable (Seen n r j) := inferInstanceAs (Decidable (_ ∧ _))

/-- The window's test on words. -/
theorem band_word : ∀ (r : Fin 128) (j : Fin 256), IntOp.andi
        (IntOp.cmpi CmpIPredicate.sge (IntOp.subi (IntOp.addi (BitVec.ofNat 32 r.val) 128#32) (BitVec.ofNat 32 j.val)) 0#32)
        (IntOp.cmpi CmpIPredicate.slt (IntOp.subi (IntOp.addi (BitVec.ofNat 32 r.val) 128#32) (BitVec.ofNat 32 j.val)) 128#32)
      = if r.val < j.val ∧ j.val ≤ r.val + 128 then 1#1 else 0#1 := by decide +kernel

/-- The own block's test on words. -/
theorem late_word : ∀ j : Fin 256, IntOp.cmpi CmpIPredicate.sge (BitVec.ofNat 32 j.val) 128#32 = if 128 ≤ j.val then 1#1 else 0#1 := by
  decide +kernel

/-- The block before's test on words. -/
theorem early_word : ∀ j : Fin 256, IntOp.cmpi CmpIPredicate.slt (BitVec.ofNat 32 j.val) 128#32 = if 128 ≤ j.val then 0#1 else 1#1 := by
  decide +kernel

/-- The first block's test on words. -/
theorem first_word : ∀ n : Fin 128, IntOp.cmpi CmpIPredicate.eq (BitVec.ofNat 32 n.val) 0#32 = if n.val ≠ 0 then 0#1 else 1#1 := by
  decide +kernel

end Cert.Row

end
-- ==== Proof.AttnRef.lean ====
/- The attention reference read at an index. -/
module

public import proofs.«01_k».proof.Proof.Gen.ReferenceIdeal.Read
public import Idealize.ShloMosaic.Lib.Pipeline.ValueKit
public import Idealize.ShloMosaic.Lib.KernelVsHost
public import proofs.«01_k».proof.Proof.AttnRow
public import proofs.«01_k».proof.Proof.AttnSeen

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (x0 : FVec Ideal S16384x4096 .bf16) (x1 : FVec Ideal S16384x1024 .bf16) (x2 : FVec Ideal S16384x4096 .f32) (x3 : FVec Ideal S64 .f32)

/-- Minus infinity, as the word. -/
theorem minus_inf : Ideal.ofBits .f32 0xFF800000#32 = ⊥ := by
  simp [Ideal.ofBits, Ideal.ieee]

/-- One eighth, as the word. -/
theorem eighth : Ideal.ofBits .f32 0x3E000000#32 = ((1 / 8 : ℝ) : EReal) := by
  simp [Ideal.ofBits, Ideal.ieee, -EReal.coe_mul]; norm_num

/-- The queries, by block, row, key head, head of its group and lane. -/
theorem queries_at (n r : Fin 128) (hk g : Fin 8) (d : Fin 64) : val_main_v2 (F := Ideal) x0 (ix5 n r hk g d)
    = x0 (ix2 ⟨128 * n.val + r.val, by omega⟩ ⟨512 * hk.val + 64 * g.val + d.val, by omega⟩) := by
  pointwise [val_main_v2, val_main_v0]
  congr 2 <;> apply Fin.ext <;> dsimp only <;> omega

/-- The keys a block sees: the block before it, then its own. -/
theorem keys_at (n : Fin 128) (j : Fin 256) (hk : Fin 8) (d : Fin 64) : val_main_v11 (F := Ideal) x1 (ix4 n j hk d)
    = if 128 ≤ j.val ∨ n.val ≠ 0 then x1 (ix2 ⟨128 * n.val + j.val - 128, by omega⟩ ⟨64 * hk.val + d.val, by omega⟩) else 0 := by
  pointwise [val_main_v11, val_main_v10, val_main_v4, val_main_v3, val_main_v1, val_main_v9, val_main_v8, val_main_cst]
  by_cases hj : 128 ≤ j.val
  · rw [if_pos (Or.inl hj), dif_neg (by omega)]
    congr 2 <;> apply Fin.ext <;> dsimp only <;> omega
  · rw [dif_pos (by omega)]
    by_cases hn : n.val = 0
    · rw [dif_pos (by omega), if_neg (by omega)]
    · rw [dif_neg (by omega), if_pos (Or.inr hn)]
      congr 2 <;> apply Fin.ext <;> dsimp only <;> omega

/-- The values a block sees. -/
theorem values_at (n : Fin 128) (j : Fin 256) (hk : Fin 8) (d : Fin 64) : val_main_v14 (F := Ideal) x1 (ix4 n j hk d)
    = if 128 ≤ j.val ∨ n.val ≠ 0 then x1 (ix2 ⟨128 * n.val + j.val - 128, by omega⟩ ⟨512 + 64 * hk.val + d.val, by omega⟩) else 0 := by
  pointwise [val_main_v14, val_main_v13, val_main_v6, val_main_v5, val_main_v1, val_main_v12, val_main_v8, val_main_cst]
  by_cases hj : 128 ≤ j.val
  · rw [if_pos (Or.inl hj), dif_neg (by omega)]
    congr 2 <;> apply Fin.ext <;> dsimp only <;> omega
  · rw [dif_pos (by omega)]
    by_cases hn : n.val = 0
    · rw [dif_pos (by omega), if_neg (by omega)]
    · rw [dif_neg (by omega), if_pos (Or.inr hn)]
      congr 2 <;> apply Fin.ext <;> dsimp only <;> omega

/-- The mask. -/
theorem mask_at (n r : Fin 128) (j : Fin 256) : val_main_v47 (F := Ideal) (ix3 n r j) = if Row.Seen n.val r.val j.val then 1#1 else 0#1 := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_c, val_main_c_1, val_main_c_2, val_main_c_3, val_main_c_4]
  rw [Row.band_word, Row.early_word, Row.first_word]
  unfold Row.Seen
  by_cases h1 : r.val < j.val ∧ j.val ≤ r.val + 128 <;> by_cases h2 : 128 ≤ j.val <;> by_cases h3 : n.val ≠ 0 <;> simp [h1, h2, h3] <;> first | rfl | decide | skip

/-- A score. -/
theorem scores_at (n r : Fin 128) (hk g : Fin 8) (j : Fin 256) : val_main_v49 (F := Ideal) x0 x1 (ix5 n hk g r j)
    = if Row.Seen n.val r.val j.val then (∑ d : Fin 64, val_main_v11 (F := Ideal) x1 (ix4 n j hk d) * val_main_v2 (F := Ideal) x0 (ix5 n r hk g d)) * ((1 / 8 : ℝ) : EReal)
      else ⊥ := by
  pointwise [val_main_v49, val_main_call0_v0, val_main_call0_v1, val_main_call0_v2, val_main_v48, val_main_v18, val_main_v17, val_main_cst_0, val_main_v16, val_main_v15, val_main_cst_5]
  rw [mask_at, eighth]
  by_cases h : Row.Seen n.val r.val j.val
  · rw [if_pos h, if_pos h]; rfl
  · rw [if_neg h, if_neg h]
    exact minus_inf

/-- A row's greatest score. -/
theorem top_at (n r : Fin 128) (hk g : Fin 8) : val_main_v52 (F := Ideal) x0 x1 (ix4 n hk g r)
    = Finset.univ.fold max (Ideal.ofBits .f32 0xFF800000#32) (fun j => val_main_v49 (F := Ideal) x0 x1 (ix5 n hk g r j)) := by
  unfold val_main_v52
  generalize val_main_v49 (F := Ideal) x0 x1 = y
  pointwise [val_main_cst_6]

/-- A row's reference level: its greatest score or its sink. -/
theorem level_at (n r : Fin 128) (hk g : Fin 8) (u : Fin 1) : val_main_v55 (F := Ideal) x0 x1 x3 (ix5 n hk g r u)
    = max (val_main_v52 (F := Ideal) x0 x1 (ix4 n hk g r)) (x3 (ix1 ⟨8 * hk.val + g.val, by omega⟩)) := by
  have e : (⟨8 * hk.val + g.val, by omega⟩ : Fin 64) = ⟨hk.val * 8 + g.val, by omega⟩ := by apply Fin.ext; dsimp only; omega
  have e1 : idx_main_v53 (ix5 n hk g r u) = ix4 n hk g r := by
    funext a; match a with | ⟨0, _⟩ => rfl | ⟨1, _⟩ => rfl | ⟨2, _⟩ => rfl | ⟨3, _⟩ => rfl
  have e2 : idx_main_v50 (idx_main_v51 (idx_main_v54 (ix5 n hk g r u))) = ix1 ⟨hk.val * 8 + g.val, by omega⟩ := by
    funext a; match a with | ⟨0, _⟩ => rfl
  rw [val_main_v55_apply, val_main_v53_apply, val_main_v54_apply, val_main_v51_apply, val_main_v50_apply, e, e1, e2]
  rfl

/-- An unscaled weight. -/
theorem expo_at (n r : Fin 128) (hk g : Fin 8) (j : Fin 256) : val_main_v58 (F := Ideal) x0 x1 x3 (ix5 n hk g r j)
    = Ideal.exp (val_main_v49 (F := Ideal) x0 x1 (ix5 n hk g r j) - val_main_v55 (F := Ideal) x0 x1 x3 (ix5 n hk g r 0)) := by
  pointwise [val_main_v58, val_main_v57, val_main_v56]

/-- A row's sum of unscaled weights. -/
theorem sum_at (n r : Fin 128) (hk g : Fin 8) : val_main_v59 (F := Ideal) x0 x1 x3 (ix4 n hk g r)
    = ∑ j : Fin 256, val_main_v58 (F := Ideal) x0 x1 x3 (ix5 n hk g r j) := by
  pointwise [val_main_v59, val_main_cst_7]

/-- A weight. -/
theorem weight_at (n r : Fin 128) (hk g : Fin 8) (j : Fin 256) : val_main_v66 (F := Ideal) x0 x1 x3 (ix5 n hk g r j)
    = Ideal.div (val_main_v58 (F := Ideal) x0 x1 x3 (ix5 n hk g r j)) (val_main_v59 (F := Ideal) x0 x1 x3 (ix4 n hk g r)
        + Ideal.exp (x3 (ix1 ⟨8 * hk.val + g.val, by omega⟩) - val_main_v55 (F := Ideal) x0 x1 x3 (ix5 n hk g r 0))) := by
  have e : (⟨8 * hk.val + g.val, by omega⟩ : Fin 64) = ⟨hk.val * 8 + g.val, by omega⟩ := by apply Fin.ext; dsimp only; omega
  rw [e]
  pointwise [val_main_v66, val_main_v65, val_main_v64, val_main_v63, val_main_v62, val_main_v61, val_main_v60, val_main_v51, val_main_v50]

/-- A row's attention output in a lane. -/
theorem sums_at (n r : Fin 128) (hk g : Fin 8) (d : Fin 64) : val_main_v68 (F := Ideal) x0 x1 x3 (ix5 n r hk g d)
    = ∑ j : Fin 256, val_main_v14 (F := Ideal) x1 (ix4 n j hk d) * val_main_v66 (F := Ideal) x0 x1 x3 (ix5 n hk g r j) := by
  pointwise [val_main_v68, val_main_v67]

/-- The output, by block, row, head and lane. -/
theorem out_at (n r : Fin 128) (hk g : Fin 8) (d : Fin 64) (i : S16384x4096.Idx) (e0 : (i 0).val = 128 * n.val + r.val)
    (e1 : (i 1).val = 512 * hk.val + 64 * g.val + d.val) : val_main_v71 (F := Ideal) x0 x1 x2 x3 i
    = val_main_v68 (F := Ideal) x0 x1 x3 (ix5 n r hk g d) * x2 i := by
  have e : idx_main_v69 i = ix5 n r hk g d := by
    funext a; apply Fin.ext
    match a with
    | ⟨0, _⟩ => show ((i 0).val * 4096 + (i 1).val) / 524288 = n.val; omega
    | ⟨1, _⟩ => show ((i 0).val * 4096 + (i 1).val) / 4096 % 128 = r.val; omega
    | ⟨2, _⟩ => show ((i 0).val * 4096 + (i 1).val) / 512 % 8 = hk.val; omega
    | ⟨3, _⟩ => show ((i 0).val * 4096 + (i 1).val) / 64 % 8 = g.val; omega
    | ⟨4, _⟩ => show ((i 0).val * 4096 + (i 1).val) % 64 = d.val; omega
  rw [val_main_v71_apply, val_main_v70_apply, val_main_v69_apply, e]
  rfl

/-- The output at an index: the row attended with every weight divided first, and gated. -/
theorem value_at (n r : Fin 128) (hk g : Fin 8) (d : Fin 64) (i : S16384x4096.Idx) (e0 : (i 0).val = 128 * n.val + r.val)
    (e1 : (i 1).val = 512 * hk.val + 64 * g.val + d.val) : val_main_v71 (F := Ideal) x0 x1 x2 x3 i
    = Row.attendEach (fun j => val_main_v49 (F := Ideal) x0 x1 (ix5 n hk g r j)) (x3 (ix1 ⟨8 * hk.val + g.val, by omega⟩))
        (fun j => val_main_v14 (F := Ideal) x1 (ix4 n j hk d)) * x2 i := by
  rw [out_at x0 x1 x2 x3 n r hk g d i e0 e1, sums_at]
  unfold Row.attendEach Row.total Row.top
  simp only [weight_at, sum_at, expo_at, level_at, top_at, minus_inf]

/-- The two ways to attend a row meet: scaled keys against scaled scores, one division against one per weight. -/
theorem attend_meets (n r : Fin 128) (hk g : Fin 8) (d : Fin 64) (hx0 : ∀ i, x0 i ≠ ⊤ ∧ x0 i ≠ ⊥)
    (hx1 : ∀ i : S16384x1024.Idx, (i 1).val < 512 → x1 i ≠ ⊤ ∧ x1 i ≠ ⊥) (hx3 : ∀ i, x3 i ≠ ⊤) (Q : Fin 64 → EReal)
    (K : Fin 256 → Fin 64 → EReal) (V : Fin 256 → EReal)
    (hQ : ∀ d, Q d = x0 (ix2 ⟨128 * n.val + r.val, by omega⟩ ⟨512 * hk.val + 64 * g.val + d.val, by omega⟩))
    (hK : ∀ (j : Fin 256) (d : Fin 64), 128 ≤ j.val ∨ n.val ≠ 0 → K j d = x1 (ix2 ⟨128 * n.val + j.val - 128, by omega⟩ ⟨64 * hk.val + d.val, by omega⟩))
    (hV : ∀ j : Fin 256, 128 ≤ j.val ∨ n.val ≠ 0 → V j = x1 (ix2 ⟨128 * n.val + j.val - 128, by omega⟩ ⟨512 + 64 * hk.val + d.val, by omega⟩)) :
    Row.attend (fun j => if Row.Seen n.val r.val j.val then ∑ d, Q d * (K j d * ((1 / 8 : ℝ) : EReal)) else ⊥)
        (x3 (ix1 ⟨8 * hk.val + g.val, by omega⟩)) V
      = Row.attendEach (fun j => val_main_v49 (F := Ideal) x0 x1 (ix5 n hk g r j)) (x3 (ix1 ⟨8 * hk.val + g.val, by omega⟩))
        (fun j => val_main_v14 (F := Ideal) x1 (ix4 n j hk d)) := by
  have same : (fun j : Fin 256 => val_main_v49 (F := Ideal) x0 x1 (ix5 n hk g r j))
      = fun j : Fin 256 => if Row.Seen n.val r.val j.val then ∑ d, Q d * (K j d * ((1 / 8 : ℝ) : EReal)) else ⊥ := by
    funext j
    rw [scores_at]
    by_cases h : Row.Seen n.val r.val j.val
    · rw [if_pos h, if_pos h, Row.sum_factor _ _ _ (by exact_mod_cast (by norm_num : (0 : ℝ) ≤ 1 / 8)) (EReal.coe_ne_top _)]
      refine congrArg (· * _) (Finset.sum_congr rfl fun d _ => ?_)
      rw [keys_at, if_pos h.2, queries_at, hQ, hK j d h.2]
    · rw [if_neg h, if_neg h]
  rw [same]
  have real : ∀ j : Fin 256, Row.Seen n.val r.val j.val → ∃ x : ℝ, ∑ d, Q d * (K j d * ((1 / 8 : ℝ) : EReal)) = x := fun j h =>
    Row.sum_real _ _ _ (fun d => by rw [hQ]; exact hx0 _) (fun d => by rw [hK j d h.2]; exact hx1 _ (by show 64 * hk.val + d.val < 512; omega))
  refine Row.attend_eq _ _ _ _ (fun j => ?_) ⟨r.val + 128, by omega⟩ ?_ (hx3 _) fun j hj => ?_
  · by_cases h : Row.Seen n.val r.val j.val
    · obtain ⟨x, hx⟩ := real j h
      rw [if_pos h, hx]; exact EReal.coe_ne_top _
    · rw [if_neg h]; exact bot_ne_top
  · have h : Row.Seen n.val r.val (r.val + 128) := ⟨⟨by omega, le_rfl⟩, Or.inl (by omega)⟩
    obtain ⟨x, hx⟩ := real ⟨r.val + 128, by omega⟩ h
    rw [if_pos h, hx]; exact EReal.coe_ne_bot _
  · have h : Row.Seen n.val r.val j.val := by
      by_contra h
      exact hj (if_neg h)
    rw [values_at, if_pos h.2, hV j h.2]

end Cert.ReferenceIdeal.Read

end
-- ==== Proof.AttnPoint.lean ====
/- A tile of the attention kernel against the reference: the mask, the 256 keys of a block, and the tile's value. -/
module

public import proofs.«01_k».proof.Proof.AttnTileAt
public import proofs.«01_k».proof.Proof.AttnRef

@[expose] public section

set_option maxRecDepth 16384

noncomputable section

namespace Cert.KernelIdeal.Tile

open Cert.KernelIdeal Cert.KernelIdeal.Gen Idealize.ShloMosaic Idealize.ShloMosaic.TcCoe Idealize.SL.Sem

/-- Whether a grid point is not the first, on words. -/
theorem later_word : ∀ t : Fin grid0.N, Scalar.xori (Scalar.cmpi CmpIPredicate.eq (BitVec.ofNat 32 (grid0.coords t 0).val) 0#32) 1#1
    = if t.val ≠ 0 then 1#1 else 0#1 := by decide +kernel

/-- The mask of a grid point's first block. -/
theorem mask_first (t : Fin grid0.N) (n : Nat) (hn : n = 2 * t.val) (r : Fin 128) (j : Fin 256) :
    k0_pay2 (grid0.coords t) (ix2 r j) = if Row.Seen n r.val j.val then 1#1 else 0#1 := by
  pointwise [k0_pay2]
  rw [Row.band_word, Row.late_word, later_word]
  have e : (n ≠ 0) = (t.val ≠ 0) := by apply propext; omega
  unfold Row.Seen
  simp only [e]
  by_cases h1 : r.val < j.val ∧ j.val ≤ r.val + 128 <;> by_cases h2 : 128 ≤ j.val <;> by_cases h3 : t.val ≠ 0 <;> simp [h1, h2, h3] <;> first | rfl | decide

/-- The mask of a grid point's second block. -/
theorem mask_second (n : Nat) (hn : n ≠ 0) (r : Fin 128) (j : Fin 256) :
    k0_pay447 (ix2 r j) = if Row.Seen n r.val j.val then 1#1 else 0#1 := by
  pointwise [k0_pay447]
  rw [Row.band_word, Row.late_word]
  unfold Row.Seen
  by_cases h1 : r.val < j.val ∧ j.val ≤ r.val + 128 <;> by_cases h2 : 128 ≤ j.val <;> simp [h1, h2, hn] <;> first | rfl | decide

/-- A block's 256 rows: the block before it, then its own. -/
theorem rows_at (prev own : FVec Ideal S128x128 .bf16) (j : Fin 256) (c : Fin 128) :
    rows prev own (ix2 j c) = if h : j.val < 128 then prev (ix2 ⟨j.val, h⟩ c) else own (ix2 ⟨j.val - 128, by omega⟩ c) := by
  pointwise [rows]

variable (x0 : FVec Ideal S16384x4096 .bf16) (x1 : FVec Ideal S16384x1024 .bf16) (x2 : FVec Ideal S16384x4096 .f32) (x3 : FVec Ideal S64 .f32)

/-- A block's 256 rows of a pair of columns, as rows of the whole array. -/
theorem rows_read (prev own : FVec Ideal S128x128 .bf16) (n : Fin 128) (o : Nat) (ho : o + 128 ≤ 1024)
    (hp : ∀ (x : S128x128.Idx) (i : S16384x1024.Idx), n.val ≠ 0 → (i 0).val + 128 = 128 * n.val + (x 0).val → (i 1).val = o + (x 1).val → prev x = x1 i)
    (hw : ∀ (x : S128x128.Idx) (i : S16384x1024.Idx), (i 0).val = 128 * n.val + (x 0).val → (i 1).val = o + (x 1).val → own x = x1 i)
    (j : Fin 256) (c : Fin 128) (h : 128 ≤ j.val ∨ n.val ≠ 0) (i : S16384x1024.Idx) (e0 : (i 0).val = 128 * n.val + j.val - 128)
    (e1 : (i 1).val = o + c.val) : rows prev own (ix2 j c) = x1 i := by
  rw [rows_at]
  by_cases hj : j.val < 128
  · rw [dif_pos hj]
    exact hp _ i (by omega) (by show _ = 128 * n.val + j.val; omega) e1
  · rw [dif_neg hj]
    exact hw _ i (by show _ = 128 * n.val + (j.val - 128); omega) e1

/-- Eight sinks, one by one. -/
theorem eight (hk : Fin 8) (s0 s1 s2 s3 s4 s5 s6 s7 : Ideal .f32)
    (h0 : ∀ i : S64.Idx, (i 0).val = 8 * hk.val + 0 → s0 = x3 i)
    (h1 : ∀ i : S64.Idx, (i 0).val = 8 * hk.val + 1 → s1 = x3 i)
    (h2 : ∀ i : S64.Idx, (i 0).val = 8 * hk.val + 2 → s2 = x3 i)
    (h3 : ∀ i : S64.Idx, (i 0).val = 8 * hk.val + 3 → s3 = x3 i)
    (h4 : ∀ i : S64.Idx, (i 0).val = 8 * hk.val + 4 → s4 = x3 i)
    (h5 : ∀ i : S64.Idx, (i 0).val = 8 * hk.val + 5 → s5 = x3 i)
    (h6 : ∀ i : S64.Idx, (i 0).val = 8 * hk.val + 6 → s6 = x3 i)
    (h7 : ∀ i : S64.Idx, (i 0).val = 8 * hk.val + 7 → s7 = x3 i) (g : Fin 8) (i : S64.Idx) (e : (i 0).val = 8 * hk.val + g.val) :
    (![s0, s1, s2, s3, s4, s5, s6, s7] g) = x3 i := by
  fin_cases g
  · exact h0 i e
  · exact h1 i e
  · exact h2 i e
  · exact h3 i e
  · exact h4 i e
  · exact h5 i e
  · exact h6 i e
  · exact h7 i e

/-- A tile is the reference there: a key head `hk`, one pair `p` of its eight heads. -/
theorem tile_point (v : IVec S128x256 1) (q0 q1 q2 q3 : FVec Ideal S128x128 .bf16) (k x : FVec Ideal S256x128 .bf16)
    (kp ko vp vo : FVec Ideal S128x128 .bf16)
    (s0 s1 s2 s3 s4 s5 s6 s7 : Ideal .f32) (oa ob : Nat) (ha hb ha' hb') (sa sb : Ideal .f32) (sg : FVec Ideal S128x128 .f32)
    (n : Fin 128) (hk : Fin 8) (p : Fin 4) (ck cv e : Nat) (hek : e = hk.val % 2) (hck : ck = 128 * (hk.val / 2)) (hcv : cv = 512 + 128 * (hk.val / 2))
    (hx0 : ∀ i, x0 i ≠ ⊤ ∧ x0 i ≠ ⊥)
    (hx1 : ∀ i : S16384x1024.Idx, (i 1).val < 512 → x1 i ≠ ⊤ ∧ x1 i ≠ ⊥) (hx3 : ∀ i, x3 i ≠ ⊤)
    (ea : oa = 128 * (2 * p.val + 0)) (eb : ob = 128 * (2 * p.val + 1))
    (hsa : sa = ![s0, s1, s2, s3, s4, s5, s6, s7] ⟨2 * p.val + 0, by omega⟩) (hsb : sb = ![s0, s1, s2, s3, s4, s5, s6, s7] ⟨2 * p.val + 1, by omega⟩)
    (hv : ∀ (r : Fin 128) (j : Fin 256), v (ix2 r j) = if Row.Seen n.val r.val j.val then 1#1 else 0#1)
    (hq : ∀ (x : S128x128.Idx) (i : S16384x4096.Idx), (i 0).val = 128 * n.val + (x 0).val → (i 1).val = 512 * hk.val + 128 * p.val + (x 1).val
      → (![q0, q1, q2, q3] p) x = x0 i)
    (hkk : ∀ (j : Fin 256) (c c' : Fin 128), c'.val = 64 * e + c.val % 64 → k (ix2 j c) = rows kp ko (ix2 j c'))
    (hxx : ∀ (j : Fin 256) (c c' : Fin 128), c'.val = 64 * e + c.val % 64 → x (ix2 j c) = rows vp vo (ix2 j c'))
    (hkp : ∀ (x : S128x128.Idx) (i : S16384x1024.Idx), n.val ≠ 0 → (i 0).val + 128 = 128 * n.val + (x 0).val → (i 1).val = ck + (x 1).val → kp x = x1 i)
    (hko : ∀ (x : S128x128.Idx) (i : S16384x1024.Idx), (i 0).val = 128 * n.val + (x 0).val → (i 1).val = ck + (x 1).val → ko x = x1 i)
    (hvp : ∀ (x : S128x128.Idx) (i : S16384x1024.Idx), n.val ≠ 0 → (i 0).val + 128 = 128 * n.val + (x 0).val → (i 1).val = cv + (x 1).val → vp x = x1 i)
    (hvo : ∀ (x : S128x128.Idx) (i : S16384x1024.Idx), (i 0).val = 128 * n.val + (x 0).val → (i 1).val = cv + (x 1).val → vo x = x1 i)
    (hs : ∀ (g : Fin 8) (i : S64.Idx), (i 0).val = 8 * hk.val + g.val → (![s0, s1, s2, s3, s4, s5, s6, s7] g) = x3 i)
    (hsg : ∀ (x : S128x128.Idx) (i : S16384x4096.Idx), (i 0).val = 128 * n.val + (x 0).val → (i 1).val = 512 * hk.val + 128 * p.val + (x 1).val
      → sg x = x2 i)
    (y : S128x128.Idx) (i : S16384x4096.Idx) (e0 : (i 0).val = 128 * n.val + (y 0).val) (e1 : (i 1).val = 512 * hk.val + 128 * p.val + (y 1).val) :
    tile v q0 q1 q2 q3 k x s0 s1 s2 s3 s4 s5 s6 s7 oa ob ha hb ha' hb' sa sb sg y
      = Cert.ReferenceIdeal.Read.val_main_v71 (F := Ideal) x0 x1 x2 x3 i := by
  obtain ⟨r, c, rfl⟩ : ∃ (r c : Fin 128), y = ix2 r c := ⟨y 0, y 1, by funext a; match a with | ⟨0, _⟩ => rfl | ⟨1, _⟩ => rfl⟩
  replace e0 : (i 0).val = 128 * n.val + r.val := e0
  replace e1 : (i 1).val = 512 * hk.val + 128 * p.val + c.val := e1
  have he : e < 2 := by omega
  have hg : 2 * p.val + c.val / 64 < 8 := by omega
  rw [tile_at v q0 q1 q2 q3 k x s0 s1 s2 s3 s4 s5 s6 s7 oa ob ha hb ha' hb' sa sb sg p ea eb hsa hsb r c
    (fun c => (![q0, q1, q2, q3] p) (ix2 r c)) (fun j d => rows kp ko (ix2 j ⟨64 * e + d.val, by omega⟩))
    (fun j d => rows vp vo (ix2 j ⟨64 * e + d.val, by omega⟩)) (fun _ => rfl) (fun j c => hkk j c _ rfl) (fun j c => hxx j c _ rfl),
    Cert.ReferenceIdeal.Read.value_at x0 x1 x2 x3 n r hk ⟨2 * p.val + c.val / 64, hg⟩ ⟨c.val % 64, by omega⟩ i e0
      (by rw [e1]; dsimp only; omega),
    ← Cert.ReferenceIdeal.Read.attend_meets x0 x1 x3 n r hk ⟨2 * p.val + c.val / 64, hg⟩ ⟨c.val % 64, by omega⟩ hx0 hx1 hx3
      (fun d => (![q0, q1, q2, q3] p) (ix2 r ⟨64 * (c.val / 64) + d.val, by omega⟩)) (fun j d => rows kp ko (ix2 j ⟨64 * e + d.val, by omega⟩))
      (fun j => rows vp vo (ix2 j ⟨64 * e + c.val % 64, by omega⟩))
      (fun d => hq _ _ rfl (by show 512 * hk.val + 64 * (2 * p.val + c.val / 64) + d.val = 512 * hk.val + 128 * p.val + (64 * (c.val / 64) + d.val); omega))
      (fun j d h => rows_read x1 kp ko n ck (by omega) hkp hko j _ h _ rfl (by show 64 * hk.val + d.val = ck + (64 * e + d.val); omega))
      (fun j h => rows_read x1 vp vo n cv (by omega) hvp hvo j _ h _ rfl (by show 512 + 64 * hk.val + c.val % 64 = cv + (64 * e + c.val % 64); omega)),
    hsg _ i e0 e1]
  have sink : (if c.val < 64 then sa else sb) = x3 (ix1 ⟨8 * hk.val + (2 * p.val + c.val / 64), by omega⟩) := by
    by_cases hc : c.val < 64
    · rw [if_pos hc, hsa]
      exact hs _ _ (by show 8 * hk.val + (2 * p.val + c.val / 64) = 8 * hk.val + (2 * p.val + 0); omega)
    · rw [if_neg hc, hsb]
      exact hs _ _ (by show 8 * hk.val + (2 * p.val + c.val / 64) = 8 * hk.val + (2 * p.val + 1); omega)
  rw [sink]
  refine congrArg (· * _) (congrArg (fun X => Row.attend X _ _) (funext fun j => ?_))
  rw [hv]
  by_cases h : Row.Seen n.val r.val j.val
  · rw [if_pos h, if_pos h, if_pos rfl]
  · rw [if_neg h, if_neg h, if_neg (by decide)]

end Cert.KernelIdeal.Tile

end
-- ==== Proof.AttnLoad.lean ====
/- The blocks the attention kernel loads, read at an index of the arrays. -/
module

public import proofs.«01_k».proof.Proof.Gen.KernelIdeal.Value
public import Idealize.ShloMosaic.Lib.Pipeline.ValueKit
public import Idealize.ShloMosaic.Lib.WholeRead

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![0] ∧ win0_1.index t = ![t.val, 0] ∧ win0_2.index t = ![t.val, 0]
    ∧ win0_3.index t = ![2 * t.val - 1, 0] ∧ win0_4.index t = ![t.val, 0] ∧ win0_6.index t = ![t.val, 0] :=
  (by decide +kernel : ∀ t : Fin grid0.N, _)

/-- A tile of queries. -/
theorem read_q (c : Dev nD) (t : Fin cfg0.N) (o p : Nat) (h h' h0) (x : S128x128.Idx) (i : S16384x4096.Idx)
    (e0 : (i 0).val = 256 * t.val + o + (x 0).val) (e1 : (i 1).val = p + (x 1).val) :
    View.readAt (Elt Ideal) (ms0_1 t).view ((Rect.unit (s := S256x4096) ![o, 0] S128x4096.size h).withinL (Rect.unit (s := S128x4096) ![0, p] S128x128.size h').toLoadRect h0)
      ((hs0_1 t).unread (iblk m c 1 t)) x = m ((c : Thread nD τ).loc main_arg0) i := by
  refine (congrFun ((hs0_1 t).read_unread (iblk m c 1 t)) _).trans ?_
  refine (congrArg (iblk m c 1 t) (Rect.idx_withinL _ _ h0 _)).trans ?_
  blk_ext [iblk, V, idx t]
  · show t.val * 256 + (o + (0 + 1 * (x 0).val)) = _
    omega
  · show p + 1 * (x 1).val = _
    omega

/-- A tile of a block's own keys or values (for the second block, also of the first block's). -/
theorem read_kv (c : Dev nD) (t : Fin cfg0.N) (o p : Nat) (h h' h0) (x : S128x128.Idx) (i : S16384x1024.Idx)
    (e0 : (i 0).val = 256 * t.val + o + (x 0).val) (e1 : (i 1).val = p + (x 1).val) :
    View.readAt (Elt Ideal) (ms0_2 t).view ((Rect.unit (s := S256x1024) ![o, 0] S128x1024.size h).withinL (Rect.unit (s := S128x1024) ![0, p] S128x128.size h').toLoadRect h0)
      ((hs0_2 t).unread (iblk m c 2 t)) x = m ((c : Thread nD τ).loc main_arg1) i := by
  refine (congrFun ((hs0_2 t).read_unread (iblk m c 2 t)) _).trans ?_
  refine (congrArg (iblk m c 2 t) (Rect.idx_withinL _ _ h0 _)).trans ?_
  blk_ext [iblk, V, idx t]
  · show t.val * 256 + (o + (0 + 1 * (x 0).val)) = _
    omega
  · show p + 1 * (x 1).val = _
    omega

/-- A tile of the keys or values of the block before a grid point's two. -/
theorem read_before (c : Dev nD) (t : Fin cfg0.N) (p : Nat) (h) (x : S128x128.Idx) (i : S16384x1024.Idx)
    (e0 : (i 0).val = 128 * (2 * t.val - 1) + (x 0).val) (e1 : (i 1).val = p + (x 1).val) :
    View.readAt (Elt Ideal) (ms0_3 t).view (Rect.unit (s := S128x1024) ![0, p] S128x128.size h).toLoadRect
      ((hs0_3 t).unread (iblk m c 3 t)) x = m ((c : Thread nD τ).loc main_arg1) i := by
  refine (congrFun ((hs0_3 t).read_unread (iblk m c 3 t)) _).trans ?_
  blk_ext [iblk, V, idx t]
  · show (2 * t.val - 1) * 128 + (0 + 1 * (x 0).val) = _
    omega
  · show p + 1 * (x 1).val = _
    omega

/-- A tile of gates. -/
theorem read_gate (c : Dev nD) (t : Fin cfg0.N) (o p : Nat) (h h' h0) (x : S128x128.Idx) (i : S16384x4096.Idx)
    (e0 : (i 0).val = 256 * t.val + o + (x 0).val) (e1 : (i 1).val = p + (x 1).val) :
    View.readAt (Elt Ideal) (ms0_4 t).view ((Rect.unit (s := S256x4096) ![o, 0] S128x4096.size h).withinL (Rect.unit (s := S128x4096) ![0, p] S128x128.size h').toLoadRect h0)
      ((hs0_4 t).unread (iblk m c 4 t)) x = m ((c : Thread nD τ).loc main_arg2) i := by
  refine (congrFun ((hs0_4 t).read_unread (iblk m c 4 t)) _).trans ?_
  refine (congrArg (iblk m c 4 t) (Rect.idx_withinL _ _ h0 _)).trans ?_
  blk_ext [iblk, V, idx t]
  · show t.val * 256 + (o + (0 + 1 * (x 0).val)) = _
    omega
  · show p + 1 * (x 1).val = _
    omega

/-- A head's sink. -/
theorem read_sink (c : Dev nD) (t : Fin cfg0.N) (n : Nat) (h) (x) (i : S64.Idx) (e0 : (i 0).val = n) :
    View.readAt (Elt Ideal) (ms0_0 t).view (Rect.unit (s := S64) ![n] S1.size h).toLoadRect
      ((hs0_0 t).unread (iblk m c 0 t)) x = m ((c : Thread nD τ).loc main_arg3) i := by
  refine (congrFun ((hs0_0 t).read_unread (iblk m c 0 t)) _).trans ?_
  blk_ext [iblk, V, idx t]
  show n + 1 * (x 0).val = _
  omega

end Cert.KernelIdeal.Final

end
-- ==== Proof.AttnHead0.lean ====
/- Key head 0 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 0 in the first block of a grid point: its four pairs of heads. -/
theorem head0_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 0 ≤ (y 1).val) (h2 : (y 1).val < 512)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 0 3 0 512 0 rfl rfl rfl hx0 hx1 hx3 rfl rfl rfl rfl
      (Tile.mask_first t _ hn) (fun x i e0 e1 => read_q m c t 0 384 _ _ _ x i (by omega) e1) (fun j c c' e => Tile.even_at _ j c c' (e.trans (by omega))) (fun j c c' e => Tile.even_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 0 384 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 0 2 0 512 0 rfl rfl rfl hx0 hx1 hx3 rfl rfl rfl rfl
      (Tile.mask_first t _ hn) (fun x i e0 e1 => read_q m c t 0 256 _ _ _ x i (by omega) e1) (fun j c c' e => Tile.even_at _ j c c' (e.trans (by omega))) (fun j c c' e => Tile.even_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 0 256 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 0 1 0 512 0 rfl rfl rfl hx0 hx1 hx3 rfl rfl rfl rfl
      (Tile.mask_first t _ hn) (fun x i e0 e1 => read_q m c t 0 128 _ _ _ x i (by omega) e1) (fun j c c' e => Tile.even_at _ j c c' (e.trans (by omega))) (fun j c c' e => Tile.even_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 0 128 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 0 0 0 512 0 rfl rfl rfl hx0 hx1 hx3 rfl rfl rfl rfl
      (Tile.mask_first t _ hn) (fun x i e0 e1 => read_q m c t 0 0 _ _ _ x i (by omega) e1) (fun j c c' e => Tile.even_at _ j c c' (e.trans (by omega))) (fun j c c' e => Tile.even_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 0 0 _ _ _ x i (by omega) e1) x _ (by omega) (by omega)

set_option maxHeartbeats 2000000 in
/-- Key head 0 in the second block of a grid point: its four pairs of heads. -/
theorem head0_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 0 ≤ (y 1).val) (h2 : (y 1).val < 512)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 0 3 0 512 0 rfl rfl rfl hx0 hx1 hx3 rfl rfl rfl rfl
      (Tile.mask_second _ (by omega)) (fun x i e0 e1 => read_q m c t 128 384 _ _ _ x i (by omega) e1) (fun j c c' e => Tile.even_at _ j c c' (e.trans (by omega))) (fun j c c' e => Tile.even_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 128 384 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 0 2 0 512 0 rfl rfl rfl hx0 hx1 hx3 rfl rfl rfl rfl
      (Tile.mask_second _ (by omega)) (fun x i e0 e1 => read_q m c t 128 256 _ _ _ x i (by omega) e1) (fun j c c' e => Tile.even_at _ j c c' (e.trans (by omega))) (fun j c c' e => Tile.even_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 128 256 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 0 1 0 512 0 rfl rfl rfl hx0 hx1 hx3 rfl rfl rfl rfl
      (Tile.mask_second _ (by omega)) (fun x i e0 e1 => read_q m c t 128 128 _ _ _ x i (by omega) e1) (fun j c c' e => Tile.even_at _ j c c' (e.trans (by omega))) (fun j c c' e => Tile.even_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 128 128 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 0 0 0 512 0 rfl rfl rfl hx0 hx1 hx3 rfl rfl rfl rfl
      (Tile.mask_second _ (by omega)) (fun x i e0 e1 => read_q m c t 128 0 _ _ _ x i (by omega) e1) (fun j c c' e => Tile.even_at _ j c c' (e.trans (by omega))) (fun j c c' e => Tile.even_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 0 _ _ _ _ _ _ _ _ (fun i e => read_sink m c t 0 _ _ i e) (fun i e => read_sink m c t 1 _ _ i e) (fun i e => read_sink m c t 2 _ _ i e) (fun i e => read_sink m c t 3 _ _ i e) (fun i e => read_sink m c t 4 _ _ i e) (fun i e => read_sink m c t 5 _ _ i e) (fun i e => read_sink m c t 6 _ _ i e) (fun i e => read_sink m c t 7 _ _ i e))
      (fun x i e0 e1 => read_gate m c t 128 0 _ _ _ x i (by omega) e1) x _ (by omega) (by omega)

end Cert.KernelIdeal.Final

end
-- ==== Proof.AttnHead1.lean ====
/- Key head 1 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 1 in the first block of a grid point: its four pairs of heads. -/
theorem head1_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 512 ≤ (y 1).val) (h2 : (y 1).val < 1024)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 1 3 0 512 1 rfl rfl rfl hx0 hx1 hx3 rfl rfl rfl rfl
      (Tile.mask_first t _ hn) (fun x i e0 e1 => read_q m c t 0 896 _ _ _ x i (by omega) e1) (fun j c c' e => Tile.odd_at _ j c c' (e.trans (by omega))) (fun j c c' e => Tile.odd_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 0 896 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 1 2 0 512 1 rfl rfl rfl hx0 hx1 hx3 rfl rfl rfl rfl
      (Tile.mask_first t _ hn) (fun x i e0 e1 => read_q m c t 0 768 _ _ _ x i (by omega) e1) (fun j c c' e => Tile.odd_at _ j c c' (e.trans (by omega))) (fun j c c' e => Tile.odd_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 0 768 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 1 1 0 512 1 rfl rfl rfl hx0 hx1 hx3 rfl rfl rfl rfl
      (Tile.mask_first t _ hn) (fun x i e0 e1 => read_q m c t 0 640 _ _ _ x i (by omega) e1) (fun j c c' e => Tile.odd_at _ j c c' (e.trans (by omega))) (fun j c c' e => Tile.odd_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 0 640 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 1 0 0 512 1 rfl rfl rfl hx0 hx1 hx3 rfl rfl rfl rfl
      (Tile.mask_first t _ hn) (fun x i e0 e1 => read_q m c t 0 512 _ _ _ x i (by omega) e1) (fun j c c' e => Tile.odd_at _ j c c' (e.trans (by omega))) (fun j c c' e => Tile.odd_at _ j c c' (e.trans (by omega)))
      (fun x i h e0 e1 => read_before m c t 0 _ x i (by omega) e1) (fun x i e0 e1 => read_kv m c t 0 0 _ _ _ x i (by omega) e1) (fun x i h e0 e1 => read_before m c t 512 _ x i (by omega) e1) (fun x i e0 e1 => read_kv m c t 0 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 0 512 _ _ _ x i (by omega) e1) x _ (by omega) (by omega)

set_option maxHeartbeats 2000000 in
/-- Key head 1 in the second block of a grid point: its four pairs of heads. -/
theorem head1_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 512 ≤ (y 1).val) (h2 : (y 1).val < 1024)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 1 3 0 512 1 rfl rfl rfl hx0 hx1 hx3 rfl rfl rfl rfl
      (Tile.mask_second _ (by omega)) (fun x i e0 e1 => read_q m c t 128 896 _ _ _ x i (by omega) e1) (fun j c c' e => Tile.odd_at _ j c c' (e.trans (by omega))) (fun j c c' e => Tile.odd_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 128 896 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 1 2 0 512 1 rfl rfl rfl hx0 hx1 hx3 rfl rfl rfl rfl
      (Tile.mask_second _ (by omega)) (fun x i e0 e1 => read_q m c t 128 768 _ _ _ x i (by omega) e1) (fun j c c' e => Tile.odd_at _ j c c' (e.trans (by omega))) (fun j c c' e => Tile.odd_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 128 768 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 1 1 0 512 1 rfl rfl rfl hx0 hx1 hx3 rfl rfl rfl rfl
      (Tile.mask_second _ (by omega)) (fun x i e0 e1 => read_q m c t 128 640 _ _ _ x i (by omega) e1) (fun j c c' e => Tile.odd_at _ j c c' (e.trans (by omega))) (fun j c c' e => Tile.odd_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 128 640 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 1 0 0 512 1 rfl rfl rfl hx0 hx1 hx3 rfl rfl rfl rfl
      (Tile.mask_second _ (by omega)) (fun x i e0 e1 => read_q m c t 128 512 _ _ _ x i (by omega) e1) (fun j c c' e => Tile.odd_at _ j c c' (e.trans (by omega))) (fun j c c' e => Tile.odd_at _ j c c' (e.trans (by omega)))
      (fun x i h e0 e1 => read_kv m c t 0 0 _ _ _ x i (by omega) e1) (fun x i e0 e1 => read_kv m c t 128 0 _ _ _ x i (by omega) e1) (fun x i h e0 e1 => read_kv m c t 0 512 _ _ _ x i (by omega) e1) (fun x i e0 e1 => read_kv m c t 128 512 _ _ _ x i (by omega) e1)
      (Tile.eight _ 1 _ _ _ _ _ _ _ _ (fun i e => read_sink m c t 8 _ _ i e) (fun i e => read_sink m c t 9 _ _ i e) (fun i e => read_sink m c t 10 _ _ i e) (fun i e => read_sink m c t 11 _ _ i e) (fun i e => read_sink m c t 12 _ _ i e) (fun i e => read_sink m c t 13 _ _ i e) (fun i e => read_sink m c t 14 _ _ i e) (fun i e => read_sink m c t 15 _ _ i e))
      (fun x i e0 e1 => read_gate m c t 128 512 _ _ _ x i (by omega) e1) x _ (by omega) (by omega)

end Cert.KernelIdeal.Final

end
-- ==== Proof.AttnHead2.lean ====
/- Key head 2 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 2 in the first block of a grid point: its four pairs of heads. -/
theorem head2_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 1024 ≤ (y 1).val) (h2 : (y 1).val < 1536)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 2 3 128 640 0 rfl rfl rfl hx0 hx1 hx3 rfl rfl rfl rfl
      (Tile.mask_first t _ hn) (fun x i e0 e1 => read_q m c t 0 1408 _ _ _ x i (by omega) e1) (fun j c c' e => Tile.even_at _ j c c' (e.trans (by omega))) (fun j c c' e => Tile.even_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 0 1408 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 2 2 128 640 0 rfl rfl rfl hx0 hx1 hx3 rfl rfl rfl rfl
      (Tile.mask_first t _ hn) (fun x i e0 e1 => read_q m c t 0 1280 _ _ _ x i (by omega) e1) (fun j c c' e => Tile.even_at _ j c c' (e.trans (by omega))) (fun j c c' e => Tile.even_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 0 1280 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 2 1 128 640 0 rfl rfl rfl hx0 hx1 hx3 rfl rfl rfl rfl
      (Tile.mask_first t _ hn) (fun x i e0 e1 => read_q m c t 0 1152 _ _ _ x i (by omega) e1) (fun j c c' e => Tile.even_at _ j c c' (e.trans (by omega))) (fun j c c' e => Tile.even_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 0 1152 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 2 0 128 640 0 rfl rfl rfl hx0 hx1 hx3 rfl rfl rfl rfl
      (Tile.mask_first t _ hn) (fun x i e0 e1 => read_q m c t 0 1024 _ _ _ x i (by omega) e1) (fun j c c' e => Tile.even_at _ j c c' (e.trans (by omega))) (fun j c c' e => Tile.even_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 0 1024 _ _ _ x i (by omega) e1) x _ (by omega) (by omega)

set_option maxHeartbeats 2000000 in
/-- Key head 2 in the second block of a grid point: its four pairs of heads. -/
theorem head2_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 1024 ≤ (y 1).val) (h2 : (y 1).val < 1536)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 2 3 128 640 0 rfl rfl rfl hx0 hx1 hx3 rfl rfl rfl rfl
      (Tile.mask_second _ (by omega)) (fun x i e0 e1 => read_q m c t 128 1408 _ _ _ x i (by omega) e1) (fun j c c' e => Tile.even_at _ j c c' (e.trans (by omega))) (fun j c c' e => Tile.even_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 128 1408 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 2 2 128 640 0 rfl rfl rfl hx0 hx1 hx3 rfl rfl rfl rfl
      (Tile.mask_second _ (by omega)) (fun x i e0 e1 => read_q m c t 128 1280 _ _ _ x i (by omega) e1) (fun j c c' e => Tile.even_at _ j c c' (e.trans (by omega))) (fun j c c' e => Tile.even_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 128 1280 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 2 1 128 640 0 rfl rfl rfl hx0 hx1 hx3 rfl rfl rfl rfl
      (Tile.mask_second _ (by omega)) (fun x i e0 e1 => read_q m c t 128 1152 _ _ _ x i (by omega) e1) (fun j c c' e => Tile.even_at _ j c c' (e.trans (by omega))) (fun j c c' e => Tile.even_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 128 1152 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 2 0 128 640 0 rfl rfl rfl hx0 hx1 hx3 rfl rfl rfl rfl
      (Tile.mask_second _ (by omega)) (fun x i e0 e1 => read_q m c t 128 1024 _ _ _ x i (by omega) e1) (fun j c c' e => Tile.even_at _ j c c' (e.trans (by omega))) (fun j c c' e => Tile.even_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 2 _ _ _ _ _ _ _ _ (fun i e => read_sink m c t 16 _ _ i e) (fun i e => read_sink m c t 17 _ _ i e) (fun i e => read_sink m c t 18 _ _ i e) (fun i e => read_sink m c t 19 _ _ i e) (fun i e => read_sink m c t 20 _ _ i e) (fun i e => read_sink m c t 21 _ _ i e) (fun i e => read_sink m c t 22 _ _ i e) (fun i e => read_sink m c t 23 _ _ i e))
      (fun x i e0 e1 => read_gate m c t 128 1024 _ _ _ x i (by omega) e1) x _ (by omega) (by omega)

end Cert.KernelIdeal.Final

end
-- ==== Proof.AttnHead3.lean ====
/- Key head 3 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 3 in the first block of a grid point: its four pairs of heads. -/
theorem head3_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 1536 ≤ (y 1).val) (h2 : (y 1).val < 2048)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 3 3 128 640 1 rfl rfl rfl hx0 hx1 hx3 rfl rfl rfl rfl
      (Tile.mask_first t _ hn) (fun x i e0 e1 => read_q m c t 0 1920 _ _ _ x i (by omega) e1) (fun j c c' e => Tile.odd_at _ j c c' (e.trans (by omega))) (fun j c c' e => Tile.odd_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 0 1920 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 3 2 128 640 1 rfl rfl rfl hx0 hx1 hx3 rfl rfl rfl rfl
      (Tile.mask_first t _ hn) (fun x i e0 e1 => read_q m c t 0 1792 _ _ _ x i (by omega) e1) (fun j c c' e => Tile.odd_at _ j c c' (e.trans (by omega))) (fun j c c' e => Tile.odd_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 0 1792 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 3 1 128 640 1 rfl rfl rfl hx0 hx1 hx3 rfl rfl rfl rfl
      (Tile.mask_first t _ hn) (fun x i e0 e1 => read_q m c t 0 1664 _ _ _ x i (by omega) e1) (fun j c c' e => Tile.odd_at _ j c c' (e.trans (by omega))) (fun j c c' e => Tile.odd_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 0 1664 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 3 0 128 640 1 rfl rfl rfl hx0 hx1 hx3 rfl rfl rfl rfl
      (Tile.mask_first t _ hn) (fun x i e0 e1 => read_q m c t 0 1536 _ _ _ x i (by omega) e1) (fun j c c' e => Tile.odd_at _ j c c' (e.trans (by omega))) (fun j c c' e => Tile.odd_at _ j c c' (e.trans (by omega)))
      (fun x i h e0 e1 => read_before m c t 128 _ x i (by omega) e1) (fun x i e0 e1 => read_kv m c t 0 128 _ _ _ x i (by omega) e1) (fun x i h e0 e1 => read_before m c t 640 _ x i (by omega) e1) (fun x i e0 e1 => read_kv m c t 0 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 0 1536 _ _ _ x i (by omega) e1) x _ (by omega) (by omega)

set_option maxHeartbeats 2000000 in
/-- Key head 3 in the second block of a grid point: its four pairs of heads. -/
theorem head3_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 1536 ≤ (y 1).val) (h2 : (y 1).val < 2048)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 3 3 128 640 1 rfl rfl rfl hx0 hx1 hx3 rfl rfl rfl rfl
      (Tile.mask_second _ (by omega)) (fun x i e0 e1 => read_q m c t 128 1920 _ _ _ x i (by omega) e1) (fun j c c' e => Tile.odd_at _ j c c' (e.trans (by omega))) (fun j c c' e => Tile.odd_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 128 1920 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 3 2 128 640 1 rfl rfl rfl hx0 hx1 hx3 rfl rfl rfl rfl
      (Tile.mask_second _ (by omega)) (fun x i e0 e1 => read_q m c t 128 1792 _ _ _ x i (by omega) e1) (fun j c c' e => Tile.odd_at _ j c c' (e.trans (by omega))) (fun j c c' e => Tile.odd_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 128 1792 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 3 1 128 640 1 rfl rfl rfl hx0 hx1 hx3 rfl rfl rfl rfl
      (Tile.mask_second _ (by omega)) (fun x i e0 e1 => read_q m c t 128 1664 _ _ _ x i (by omega) e1) (fun j c c' e => Tile.odd_at _ j c c' (e.trans (by omega))) (fun j c c' e => Tile.odd_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 128 1664 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 3 0 128 640 1 rfl rfl rfl hx0 hx1 hx3 rfl rfl rfl rfl
      (Tile.mask_second _ (by omega)) (fun x i e0 e1 => read_q m c t 128 1536 _ _ _ x i (by omega) e1) (fun j c c' e => Tile.odd_at _ j c c' (e.trans (by omega))) (fun j c c' e => Tile.odd_at _ j c c' (e.trans (by omega)))
      (fun x i h e0 e1 => read_kv m c t 0 128 _ _ _ x i (by omega) e1) (fun x i e0 e1 => read_kv m c t 128 128 _ _ _ x i (by omega) e1) (fun x i h e0 e1 => read_kv m c t 0 640 _ _ _ x i (by omega) e1) (fun x i e0 e1 => read_kv m c t 128 640 _ _ _ x i (by omega) e1)
      (Tile.eight _ 3 _ _ _ _ _ _ _ _ (fun i e => read_sink m c t 24 _ _ i e) (fun i e => read_sink m c t 25 _ _ i e) (fun i e => read_sink m c t 26 _ _ i e) (fun i e => read_sink m c t 27 _ _ i e) (fun i e => read_sink m c t 28 _ _ i e) (fun i e => read_sink m c t 29 _ _ i e) (fun i e => read_sink m c t 30 _ _ i e) (fun i e => read_sink m c t 31 _ _ i e))
      (fun x i e0 e1 => read_gate m c t 128 1536 _ _ _ x i (by omega) e1) x _ (by omega) (by omega)

end Cert.KernelIdeal.Final

end
-- ==== Proof.AttnHead4.lean ====
/- Key head 4 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 4 in the first block of a grid point: its four pairs of heads. -/
theorem head4_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 2048 ≤ (y 1).val) (h2 : (y 1).val < 2560)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 4 3 256 768 0 rfl rfl rfl hx0 hx1 hx3 rfl rfl rfl rfl
      (Tile.mask_first t _ hn) (fun x i e0 e1 => read_q m c t 0 2432 _ _ _ x i (by omega) e1) (fun j c c' e => Tile.even_at _ j c c' (e.trans (by omega))) (fun j c c' e => Tile.even_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 0 2432 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 4 2 256 768 0 rfl rfl rfl hx0 hx1 hx3 rfl rfl rfl rfl
      (Tile.mask_first t _ hn) (fun x i e0 e1 => read_q m c t 0 2304 _ _ _ x i (by omega) e1) (fun j c c' e => Tile.even_at _ j c c' (e.trans (by omega))) (fun j c c' e => Tile.even_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 0 2304 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 4 1 256 768 0 rfl rfl rfl hx0 hx1 hx3 rfl rfl rfl rfl
      (Tile.mask_first t _ hn) (fun x i e0 e1 => read_q m c t 0 2176 _ _ _ x i (by omega) e1) (fun j c c' e => Tile.even_at _ j c c' (e.trans (by omega))) (fun j c c' e => Tile.even_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 0 2176 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 4 0 256 768 0 rfl rfl rfl hx0 hx1 hx3 rfl rfl rfl rfl
      (Tile.mask_first t _ hn) (fun x i e0 e1 => read_q m c t 0 2048 _ _ _ x i (by omega) e1) (fun j c c' e => Tile.even_at _ j c c' (e.trans (by omega))) (fun j c c' e => Tile.even_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 0 2048 _ _ _ x i (by omega) e1) x _ (by omega) (by omega)

set_option maxHeartbeats 2000000 in
/-- Key head 4 in the second block of a grid point: its four pairs of heads. -/
theorem head4_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 2048 ≤ (y 1).val) (h2 : (y 1).val < 2560)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 4 3 256 768 0 rfl rfl rfl hx0 hx1 hx3 rfl rfl rfl rfl
      (Tile.mask_second _ (by omega)) (fun x i e0 e1 => read_q m c t 128 2432 _ _ _ x i (by omega) e1) (fun j c c' e => Tile.even_at _ j c c' (e.trans (by omega))) (fun j c c' e => Tile.even_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 128 2432 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 4 2 256 768 0 rfl rfl rfl hx0 hx1 hx3 rfl rfl rfl rfl
      (Tile.mask_second _ (by omega)) (fun x i e0 e1 => read_q m c t 128 2304 _ _ _ x i (by omega) e1) (fun j c c' e => Tile.even_at _ j c c' (e.trans (by omega))) (fun j c c' e => Tile.even_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 128 2304 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 4 1 256 768 0 rfl rfl rfl hx0 hx1 hx3 rfl rfl rfl rfl
      (Tile.mask_second _ (by omega)) (fun x i e0 e1 => read_q m c t 128 2176 _ _ _ x i (by omega) e1) (fun j c c' e => Tile.even_at _ j c c' (e.trans (by omega))) (fun j c c' e => Tile.even_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 128 2176 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 4 0 256 768 0 rfl rfl rfl hx0 hx1 hx3 rfl rfl rfl rfl
      (Tile.mask_second _ (by omega)) (fun x i e0 e1 => read_q m c t 128 2048 _ _ _ x i (by omega) e1) (fun j c c' e => Tile.even_at _ j c c' (e.trans (by omega))) (fun j c c' e => Tile.even_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 4 _ _ _ _ _ _ _ _ (fun i e => read_sink m c t 32 _ _ i e) (fun i e => read_sink m c t 33 _ _ i e) (fun i e => read_sink m c t 34 _ _ i e) (fun i e => read_sink m c t 35 _ _ i e) (fun i e => read_sink m c t 36 _ _ i e) (fun i e => read_sink m c t 37 _ _ i e) (fun i e => read_sink m c t 38 _ _ i e) (fun i e => read_sink m c t 39 _ _ i e))
      (fun x i e0 e1 => read_gate m c t 128 2048 _ _ _ x i (by omega) e1) x _ (by omega) (by omega)

end Cert.KernelIdeal.Final

end
-- ==== Proof.AttnHead5.lean ====
/- Key head 5 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 5 in the first block of a grid point: its four pairs of heads. -/
theorem head5_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 2560 ≤ (y 1).val) (h2 : (y 1).val < 3072)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 5 3 256 768 1 rfl rfl rfl hx0 hx1 hx3 rfl rfl rfl rfl
      (Tile.mask_first t _ hn) (fun x i e0 e1 => read_q m c t 0 2944 _ _ _ x i (by omega) e1) (fun j c c' e => Tile.odd_at _ j c c' (e.trans (by omega))) (fun j c c' e => Tile.odd_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 0 2944 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 5 2 256 768 1 rfl rfl rfl hx0 hx1 hx3 rfl rfl rfl rfl
      (Tile.mask_first t _ hn) (fun x i e0 e1 => read_q m c t 0 2816 _ _ _ x i (by omega) e1) (fun j c c' e => Tile.odd_at _ j c c' (e.trans (by omega))) (fun j c c' e => Tile.odd_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 0 2816 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 5 1 256 768 1 rfl rfl rfl hx0 hx1 hx3 rfl rfl rfl rfl
      (Tile.mask_first t _ hn) (fun x i e0 e1 => read_q m c t 0 2688 _ _ _ x i (by omega) e1) (fun j c c' e => Tile.odd_at _ j c c' (e.trans (by omega))) (fun j c c' e => Tile.odd_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 0 2688 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 5 0 256 768 1 rfl rfl rfl hx0 hx1 hx3 rfl rfl rfl rfl
      (Tile.mask_first t _ hn) (fun x i e0 e1 => read_q m c t 0 2560 _ _ _ x i (by omega) e1) (fun j c c' e => Tile.odd_at _ j c c' (e.trans (by omega))) (fun j c c' e => Tile.odd_at _ j c c' (e.trans (by omega)))
      (fun x i h e0 e1 => read_before m c t 256 _ x i (by omega) e1) (fun x i e0 e1 => read_kv m c t 0 256 _ _ _ x i (by omega) e1) (fun x i h e0 e1 => read_before m c t 768 _ x i (by omega) e1) (fun x i e0 e1 => read_kv m c t 0 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 0 2560 _ _ _ x i (by omega) e1) x _ (by omega) (by omega)

set_option maxHeartbeats 2000000 in
/-- Key head 5 in the second block of a grid point: its four pairs of heads. -/
theorem head5_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 2560 ≤ (y 1).val) (h2 : (y 1).val < 3072)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 5 3 256 768 1 rfl rfl rfl hx0 hx1 hx3 rfl rfl rfl rfl
      (Tile.mask_second _ (by omega)) (fun x i e0 e1 => read_q m c t 128 2944 _ _ _ x i (by omega) e1) (fun j c c' e => Tile.odd_at _ j c c' (e.trans (by omega))) (fun j c c' e => Tile.odd_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 128 2944 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 5 2 256 768 1 rfl rfl rfl hx0 hx1 hx3 rfl rfl rfl rfl
      (Tile.mask_second _ (by omega)) (fun x i e0 e1 => read_q m c t 128 2816 _ _ _ x i (by omega) e1) (fun j c c' e => Tile.odd_at _ j c c' (e.trans (by omega))) (fun j c c' e => Tile.odd_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 128 2816 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 5 1 256 768 1 rfl rfl rfl hx0 hx1 hx3 rfl rfl rfl rfl
      (Tile.mask_second _ (by omega)) (fun x i e0 e1 => read_q m c t 128 2688 _ _ _ x i (by omega) e1) (fun j c c' e => Tile.odd_at _ j c c' (e.trans (by omega))) (fun j c c' e => Tile.odd_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 128 2688 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 5 0 256 768 1 rfl rfl rfl hx0 hx1 hx3 rfl rfl rfl rfl
      (Tile.mask_second _ (by omega)) (fun x i e0 e1 => read_q m c t 128 2560 _ _ _ x i (by omega) e1) (fun j c c' e => Tile.odd_at _ j c c' (e.trans (by omega))) (fun j c c' e => Tile.odd_at _ j c c' (e.trans (by omega)))
      (fun x i h e0 e1 => read_kv m c t 0 256 _ _ _ x i (by omega) e1) (fun x i e0 e1 => read_kv m c t 128 256 _ _ _ x i (by omega) e1) (fun x i h e0 e1 => read_kv m c t 0 768 _ _ _ x i (by omega) e1) (fun x i e0 e1 => read_kv m c t 128 768 _ _ _ x i (by omega) e1)
      (Tile.eight _ 5 _ _ _ _ _ _ _ _ (fun i e => read_sink m c t 40 _ _ i e) (fun i e => read_sink m c t 41 _ _ i e) (fun i e => read_sink m c t 42 _ _ i e) (fun i e => read_sink m c t 43 _ _ i e) (fun i e => read_sink m c t 44 _ _ i e) (fun i e => read_sink m c t 45 _ _ i e) (fun i e => read_sink m c t 46 _ _ i e) (fun i e => read_sink m c t 47 _ _ i e))
      (fun x i e0 e1 => read_gate m c t 128 2560 _ _ _ x i (by omega) e1) x _ (by omega) (by omega)

end Cert.KernelIdeal.Final

end
-- ==== Proof.AttnHead6.lean ====
/- Key head 6 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 6 in the first block of a grid point: its four pairs of heads. -/
theorem head6_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 3072 ≤ (y 1).val) (h2 : (y 1).val < 3584)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 6 3 384 896 0 rfl rfl rfl hx0 hx1 hx3 rfl rfl rfl rfl
      (Tile.mask_first t _ hn) (fun x i e0 e1 => read_q m c t 0 3456 _ _ _ x i (by omega) e1) (fun j c c' e => Tile.even_at _ j c c' (e.trans (by omega))) (fun j c c' e => Tile.even_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 0 3456 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 6 2 384 896 0 rfl rfl rfl hx0 hx1 hx3 rfl rfl rfl rfl
      (Tile.mask_first t _ hn) (fun x i e0 e1 => read_q m c t 0 3328 _ _ _ x i (by omega) e1) (fun j c c' e => Tile.even_at _ j c c' (e.trans (by omega))) (fun j c c' e => Tile.even_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 0 3328 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 6 1 384 896 0 rfl rfl rfl hx0 hx1 hx3 rfl rfl rfl rfl
      (Tile.mask_first t _ hn) (fun x i e0 e1 => read_q m c t 0 3200 _ _ _ x i (by omega) e1) (fun j c c' e => Tile.even_at _ j c c' (e.trans (by omega))) (fun j c c' e => Tile.even_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 0 3200 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 6 0 384 896 0 rfl rfl rfl hx0 hx1 hx3 rfl rfl rfl rfl
      (Tile.mask_first t _ hn) (fun x i e0 e1 => read_q m c t 0 3072 _ _ _ x i (by omega) e1) (fun j c c' e => Tile.even_at _ j c c' (e.trans (by omega))) (fun j c c' e => Tile.even_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 0 3072 _ _ _ x i (by omega) e1) x _ (by omega) (by omega)

set_option maxHeartbeats 2000000 in
/-- Key head 6 in the second block of a grid point: its four pairs of heads. -/
theorem head6_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 3072 ≤ (y 1).val) (h2 : (y 1).val < 3584)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.even (Tile.rows _ _)) (Tile.even (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 6 3 384 896 0 rfl rfl rfl hx0 hx1 hx3 rfl rfl rfl rfl
      (Tile.mask_second _ (by omega)) (fun x i e0 e1 => read_q m c t 128 3456 _ _ _ x i (by omega) e1) (fun j c c' e => Tile.even_at _ j c c' (e.trans (by omega))) (fun j c c' e => Tile.even_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 128 3456 _ _ _ x i (by omega) e1) x _ (by omega) (by omega)
  · refine Eq.trans (b := Tile.tile _ _ _ _ _ (Tile.even (Tile.rows _ _)) (Tile.even (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 6 2 384 896 0 rfl rfl rfl hx0 hx1 hx3 rfl rfl rfl rfl
      (Tile.mask_second _ (by omega)) (fun x i e0 e1 => read_q m c t 128 3328 _ _ _ x i (by omega) e1) (fun j c c' e => Tile.even_at _ j c c' (e.trans (by omega))) (fun j c c' e => Tile.even_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 128 3328 _ _ _ x i (by omega) e1) x _ (by omega) (by omega)
  · refine Eq.trans (b := Tile.tile _ _ _ _ _ (Tile.even (Tile.rows _ _)) (Tile.even (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 6 1 384 896 0 rfl rfl rfl hx0 hx1 hx3 rfl rfl rfl rfl
      (Tile.mask_second _ (by omega)) (fun x i e0 e1 => read_q m c t 128 3200 _ _ _ x i (by omega) e1) (fun j c c' e => Tile.even_at _ j c c' (e.trans (by omega))) (fun j c c' e => Tile.even_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 128 3200 _ _ _ x i (by omega) e1) x _ (by omega) (by omega)
  · refine Eq.trans (b := Tile.tile _ _ _ _ _ (Tile.even (Tile.rows _ _)) (Tile.even (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 6 0 384 896 0 rfl rfl rfl hx0 hx1 hx3 rfl rfl rfl rfl
      (Tile.mask_second _ (by omega)) (fun x i e0 e1 => read_q m c t 128 3072 _ _ _ x i (by omega) e1) (fun j c c' e => Tile.even_at _ j c c' (e.trans (by omega))) (fun j c c' e => Tile.even_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 6 _ _ _ _ _ _ _ _ (fun i e => read_sink m c t 48 _ _ i e) (fun i e => read_sink m c t 49 _ _ i e) (fun i e => read_sink m c t 50 _ _ i e) (fun i e => read_sink m c t 51 _ _ i e) (fun i e => read_sink m c t 52 _ _ i e) (fun i e => read_sink m c t 53 _ _ i e) (fun i e => read_sink m c t 54 _ _ i e) (fun i e => read_sink m c t 55 _ _ i e))
      (fun x i e0 e1 => read_gate m c t 128 3072 _ _ _ x i (by omega) e1) x _ (by omega) (by omega)

end Cert.KernelIdeal.Final

end
-- ==== Proof.AttnHead7.lean ====
/- Key head 7 of the attention kernel: what it stores is the reference's result there. -/
module

public import proofs.«01_k».proof.Proof.AttnPoint
public import proofs.«01_k».proof.Proof.AttnLoad

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- Key head 7 in the first block of a grid point: its four pairs of heads. -/
theorem head7_first (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : (y 0).val < 128) (h1 : 3584 ≤ (y 1).val) (h2 : (y 1).val < 4096)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val := ⟨⟨2 * t.val, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 7 3 384 896 1 rfl rfl rfl hx0 hx1 hx3 rfl rfl rfl rfl
      (Tile.mask_first t _ hn) (fun x i e0 e1 => read_q m c t 0 3968 _ _ _ x i (by omega) e1) (fun j c c' e => Tile.odd_at _ j c c' (e.trans (by omega))) (fun j c c' e => Tile.odd_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 0 3968 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 7 2 384 896 1 rfl rfl rfl hx0 hx1 hx3 rfl rfl rfl rfl
      (Tile.mask_first t _ hn) (fun x i e0 e1 => read_q m c t 0 3840 _ _ _ x i (by omega) e1) (fun j c c' e => Tile.odd_at _ j c c' (e.trans (by omega))) (fun j c c' e => Tile.odd_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 0 3840 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 7 1 384 896 1 rfl rfl rfl hx0 hx1 hx3 rfl rfl rfl rfl
      (Tile.mask_first t _ hn) (fun x i e0 e1 => read_q m c t 0 3712 _ _ _ x i (by omega) e1) (fun j c c' e => Tile.odd_at _ j c c' (e.trans (by omega))) (fun j c c' e => Tile.odd_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 0 3712 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 7 0 384 896 1 rfl rfl rfl hx0 hx1 hx3 rfl rfl rfl rfl
      (Tile.mask_first t _ hn) (fun x i e0 e1 => read_q m c t 0 3584 _ _ _ x i (by omega) e1) (fun j c c' e => Tile.odd_at _ j c c' (e.trans (by omega))) (fun j c c' e => Tile.odd_at _ j c c' (e.trans (by omega)))
      (fun x i h e0 e1 => read_before m c t 384 _ x i (by omega) e1) (fun x i e0 e1 => read_kv m c t 0 384 _ _ _ x i (by omega) e1) (fun x i h e0 e1 => read_before m c t 896 _ x i (by omega) e1) (fun x i e0 e1 => read_kv m c t 0 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 0 3584 _ _ _ x i (by omega) e1) x _ (by omega) (by omega)

set_option maxHeartbeats 2000000 in
/-- Key head 7 in the second block of a grid point: its four pairs of heads. -/
theorem head7_second (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal))
    (t : Fin grid0.N) (y : S256x4096.Idx) (h0 : 128 ≤ (y 0).val) (h1 : 3584 ≤ (y 1).val) (h2 : (y 1).val < 4096)
    (i : S16384x4096.Idx) (b0 : (i 0).val = 256 * t.val + (y 0).val) (b1 : (i 1).val = (y 1).val) :
    (outsAt0 m c t).1 y
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) i := by
  unfold outsAt0 out0_A_6
  dsimp only
  rw [View.read_writes_apply_eq_canon _ _ _ _ (cover0_A_6 _ _ _ _ _ _ _ _ _ _ _ _ _ _ _ _ _ _ _ _ _ _ _ _ y)]
  unfold kernelRun0_A
  dsimp only
  have htt : t.val < 64 := t.isLt
  obtain ⟨n, hn⟩ : ∃ n : Fin 128, n.val = 2 * t.val + 1 := ⟨⟨2 * t.val + 1, by omega⟩, rfl⟩
  canon_tiles x k
  all_goals have u0 : (x 0).val < 128 := (x 0).isLt
  all_goals have u1 : (x 1).val < 128 := (x 1).isLt
  all_goals first | (exfalso; omega) | skip
  · refine Eq.trans (b := Tile.tile _ _ _ _ _ (Tile.odd (Tile.rows _ _)) (Tile.odd (Tile.rows _ _)) _ _ _ _ _ _ _ _ 768 896 (Tile.slicesO 6) (Tile.slicesO 7) (Tile.slicesS 6) (Tile.slicesS 7) _ _ _ x) (by rfl) ?_
    exact Tile.tile_point _ _ _ _ _ _ _ _ _ _ _ _ _ _ _ _ _ _ _ _ _ _ _ _ _ _ _ _ _ _ _ _ n 7 3 384 896 1 rfl rfl rfl hx0 hx1 hx3 rfl rfl rfl rfl
      (Tile.mask_second _ (by omega)) (fun x i e0 e1 => read_q m c t 128 3968 _ _ _ x i (by omega) e1) (fun j c c' e => Tile.odd_at _ j c c' (e.trans (by omega))) (fun j c c' e => Tile.odd_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 128 3968 _ _ _ x i (by omega) e1) x _ (by omega) (by omega)
  · refine Eq.trans (b := Tile.tile _ _ _ _ _ (Tile.odd (Tile.rows _ _)) (Tile.odd (Tile.rows _ _)) _ _ _ _ _ _ _ _ 512 640 (Tile.slicesO 4) (Tile.slicesO 5) (Tile.slicesS 4) (Tile.slicesS 5) _ _ _ x) (by rfl) ?_
    exact Tile.tile_point _ _ _ _ _ _ _ _ _ _ _ _ _ _ _ _ _ _ _ _ _ _ _ _ _ _ _ _ _ _ _ _ n 7 2 384 896 1 rfl rfl rfl hx0 hx1 hx3 rfl rfl rfl rfl
      (Tile.mask_second _ (by omega)) (fun x i e0 e1 => read_q m c t 128 3840 _ _ _ x i (by omega) e1) (fun j c c' e => Tile.odd_at _ j c c' (e.trans (by omega))) (fun j c c' e => Tile.odd_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 128 3840 _ _ _ x i (by omega) e1) x _ (by omega) (by omega)
  · refine Eq.trans (b := Tile.tile _ _ _ _ _ (Tile.odd (Tile.rows _ _)) (Tile.odd (Tile.rows _ _)) _ _ _ _ _ _ _ _ 256 384 (Tile.slicesO 2) (Tile.slicesO 3) (Tile.slicesS 2) (Tile.slicesS 3) _ _ _ x) (by rfl) ?_
    exact Tile.tile_point _ _ _ _ _ _ _ _ _ _ _ _ _ _ _ _ _ _ _ _ _ _ _ _ _ _ _ _ _ _ _ _ n 7 1 384 896 1 rfl rfl rfl hx0 hx1 hx3 rfl rfl rfl rfl
      (Tile.mask_second _ (by omega)) (fun x i e0 e1 => read_q m c t 128 3712 _ _ _ x i (by omega) e1) (fun j c c' e => Tile.odd_at _ j c c' (e.trans (by omega))) (fun j c c' e => Tile.odd_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 128 3712 _ _ _ x i (by omega) e1) x _ (by omega) (by omega)
  · refine Eq.trans (b := Tile.tile _ _ _ _ _ (Tile.odd (Tile.rows _ _)) (Tile.odd (Tile.rows _ _)) _ _ _ _ _ _ _ _ 0 128 (Tile.slicesO 0) (Tile.slicesO 1) (Tile.slicesS 0) (Tile.slicesS 1) _ _ _ x) (by rfl) ?_
    exact Tile.tile_point _ _ _ _ _ _ _ _ _ _ _ _ _ _ _ _ _ _ _ _ _ _ _ _ _ _ _ _ _ _ _ _ n 7 0 384 896 1 rfl rfl rfl hx0 hx1 hx3 rfl rfl rfl rfl
      (Tile.mask_second _ (by omega)) (fun x i e0 e1 => read_q m c t 128 3584 _ _ _ x i (by omega) e1) (fun j c c' e => Tile.odd_at _ j c c' (e.trans (by omega))) (fun j c c' e => Tile.odd_at _ j c c' (e.trans (by omega)))
      (fun x i h e0 e1 => read_kv m c t 0 384 _ _ _ x i (by omega) e1) (fun x i e0 e1 => read_kv m c t 128 384 _ _ _ x i (by omega) e1) (fun x i h e0 e1 => read_kv m c t 0 896 _ _ _ x i (by omega) e1) (fun x i e0 e1 => read_kv m c t 128 896 _ _ _ x i (by omega) e1)
      (Tile.eight _ 7 _ _ _ _ _ _ _ _ (fun i e => read_sink m c t 56 _ _ i e) (fun i e => read_sink m c t 57 _ _ i e) (fun i e => read_sink m c t 58 _ _ i e) (fun i e => read_sink m c t 59 _ _ i e) (fun i e => read_sink m c t 60 _ _ i e) (fun i e => read_sink m c t 61 _ _ i e) (fun i e => read_sink m c t 62 _ _ i e) (fun i e => read_sink m c t 63 _ _ i e))
      (fun x i e0 e1 => read_gate m c t 128 3584 _ _ _ x i (by omega) e1) x _ (by omega) (by omega)

end Cert.KernelIdeal.Final

end
-- ==== Proof.AttnFinal.lean ====
/- The attention kernel's results are the reference's. -/
module

public import proofs.«01_k».proof.Proof.AttnHead0
public import proofs.«01_k».proof.Proof.AttnHead1
public import proofs.«01_k».proof.Proof.AttnHead2
public import proofs.«01_k».proof.Proof.AttnHead3
public import proofs.«01_k».proof.Proof.AttnHead4
public import proofs.«01_k».proof.Proof.AttnHead5
public import proofs.«01_k».proof.Proof.AttnHead6
public import proofs.«01_k».proof.Proof.AttnHead7

@[expose] public section

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

/-- Where the cast columns' blocks lie. -/
theorem idx_cast : ∀ t : Fin cfg0.N, win0_5.index t = win0_7.index t :=
  (by decide +kernel : ∀ t : Fin grid0.N, _)

/-- A grid point's rows of the result. -/
theorem block_rows (t : Fin cfg0.N) (y : S256x4096.Idx) :
    (((win0_6.blk t).view.emb y) 0).val = 256 * t.val + (y 0).val ∧ (((win0_6.blk t).view.emb y) 1).val = (y 1).val := by
  constructor
  · show win0_6.index t 0 * 256 + 1 * (y 0).val = _
    rw [(idx t).2.2.2.2.2]
    show t.val * 256 + 1 * (y 0).val = _
    omega
  · show win0_6.index t 1 * 4096 + 1 * (y 1).val = _
    rw [(idx t).2.2.2.2.2]
    show 0 * 4096 + 1 * (y 1).val = _
    omega

/-- The attention output's array after the run. -/
theorem final_y (c : Dev nD) (hx0 : ∀ i, m ((c : Thread nD τ).loc main_arg0) i ≠ (⊤ : EReal) ∧ m ((c : Thread nD τ).loc main_arg0) i ≠ (⊥ : EReal))
    (hx1 : ∀ i : S16384x1024.Idx, (i 1).val < 512 → m ((c : Thread nD τ).loc main_arg1) i ≠ (⊤ : EReal) ∧ m ((c : Thread nD τ).loc main_arg1) i ≠ (⊥ : EReal))
    (hx3 : ∀ i, m ((c : Thread nD τ).loc main_arg3) i ≠ (⊤ : EReal)) :
    (dats m 0 c).arrAt 6 (cfgs 0).N
      = Cert.ReferenceIdeal.Read.val_main_v71 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t ht y => ?_
  rw [after0_6]
  obtain ⟨b0, b1⟩ := block_rows t y
  have hy : (y 1).val < 4096 := (y 1).isLt
  by_cases h : (y 0).val < 128
  · skip
    by_cases h0 : (y 1).val < 512
    · exact head0_first m c hx0 hx1 hx3 t y (by omega) (by omega) (by omega) _ b0 b1
    by_cases h1 : (y 1).val < 1024
    · exact head1_first m c hx0 hx1 hx3 t y (by omega) (by omega) (by omega) _ b0 b1
    by_cases h2 : (y 1).val < 1536
    · exact head2_first m c hx0 hx1 hx3 t y (by omega) (by omega) (by omega) _ b0 b1
    by_cases h3 : (y 1).val < 2048
    · exact head3_first m c hx0 hx1 hx3 t y (by omega) (by omega) (by omega) _ b0 b1
    by_cases h4 : (y 1).val < 2560
    · exact head4_first m c hx0 hx1 hx3 t y (by omega) (by omega) (by omega) _ b0 b1
    by_cases h5 : (y 1).val < 3072
    · exact head5_first m c hx0 hx1 hx3 t y (by omega) (by omega) (by omega) _ b0 b1
    by_cases h6 : (y 1).val < 3584
    · exact head6_first m c hx0 hx1 hx3 t y (by omega) (by omega) (by omega) _ b0 b1
    exact head7_first m c hx0 hx1 hx3 t y (by omega) (by omega) (by omega) _ b0 b1
  · skip
    by_cases h0 : (y 1).val < 512
    · exact head0_second m c hx0 hx1 hx3 t y (by omega) (by omega) (by omega) _ b0 b1
    by_cases h1 : (y 1).val < 1024
    · exact head1_second m c hx0 hx1 hx3 t y (by omega) (by omega) (by omega) _ b0 b1
    by_cases h2 : (y 1).val < 1536
    · exact head2_second m c hx0 hx1 hx3 t y (by omega) (by omega) (by omega) _ b0 b1
    by_cases h3 : (y 1).val < 2048
    · exact head3_second m c hx0 hx1 hx3 t y (by omega) (by omega) (by omega) _ b0 b1
    by_cases h4 : (y 1).val < 2560
    · exact head4_second m c hx0 hx1 hx3 t y (by omega) (by omega) (by omega) _ b0 b1
    by_cases h5 : (y 1).val < 3072
    · exact head5_second m c hx0 hx1 hx3 t y (by omega) (by omega) (by omega) _ b0 b1
    by_cases h6 : (y 1).val < 3584
    · exact head6_second m c hx0 hx1 hx3 t y (by omega) (by omega) (by omega) _ b0 b1
    exact head7_second m c hx0 hx1 hx3 t y (by omega) (by omega) (by omega) _ b0 b1

set_option maxHeartbeats 1600000 in
/-- The cast weight columns' array after the run. -/
theorem final_w (c : Dev nD) : (dats m 0 c).arrAt 7 (cfgs 0).N
    = Cert.ReferenceIdeal.Read.val_main_v72 (F := Ideal) (m ((c : Thread nD τ).loc main_arg4)) := by
  refine (dats m 0 c).arrAt_eq_of_covers 7 _ (by decide +kernel) fun t _ y => ?_
  rw [after0_7]
  unfold outsAt0 out0_A_7
  dsimp only
  rw [View.read_writes_apply_eq_canon _ _ _ _ (cover0_A_7 _ _ _ _ _ _ _ _ _ _ _ _ _ _ _ _ _ _ _ _ _ _ _ _ y)]
  unfold kernelRun0_A
  dsimp only
  canon_tiles x k
  pointwise [k0_pay1, Cert.ReferenceIdeal.Read.val_main_v72]
  refine (congrFun ((hs0_5 t).read_unread (iblk m c 5 t)) _).trans ?_
  blk_ext [iblk, V, idx_cast t]
  · refine congrArg (win0_7.index t 0 * 256 + ·) (Eq.trans ?_ k0.symm)
    show 0 + 1 * (x 0).val = _
    omega
  · refine congrArg (win0_7.index t 1 * 1024 + ·) (Eq.trans ?_ k1.symm)
    show 0 + 1 * (x 1).val = _
    omega

end Cert.KernelIdeal.Final

end
-- ==== Proof.AttnPre.lean ====
/- What the precondition says of the attention's arguments: every query entry, and every entry of the key columns of the
   joined key and value array, is a real number, and no sink is plus infinity. -/
module

public import proofs.«01_k».proof.Proof.AttnFinal
public import proofs.«01_k».proof.Proof.Gen.Pre_finite_scores
public import proofs.«01_k».proof.Defs
public import Idealize.ShloMosaic.Lib.Pointwise

@[expose] public section

set_option maxRecDepth 16384

noncomputable section

namespace Cert.Proof.Pre

open Idealize.ShloMosaic Idealize.SL.Sem

/-- A bit that is one as the conjunction of two bits: both are one. -/
theorem both_one {a b : BitVec 1} (h : IntOp.andi a b = 1#1) : a = 1#1 ∧ b = 1#1 := by
  revert h
  revert a b
  decide

/-- The bfloat16 word of minus infinity. -/
theorem minus_inf_half : Ideal.ofBits .bf16 0xFF80#16 = ⊥ := by
  simp [Ideal.ofBits, Ideal.ieee]

/-- A value that compares above minus infinity is not minus infinity. -/
theorem above (a : EReal) (h : FloatOps.cmpf (F := Ideal) (φ := .bf16) .ogt a (FloatOps.ofBits (F := Ideal) .bf16 0xFF80#16) = 1#1) : a ≠ ⊥ := by
  rintro rfl
  revert h
  show Ideal.cmp .ogt ⊥ (Ideal.ofBits .bf16 0xFF80#16) = 1#1 → False
  rw [minus_inf_half]
  simp [Ideal.cmp]

/-- A value that compares below some value is not plus infinity. -/
theorem below (a b : EReal) (h : Ideal.cmp .olt a b = 1#1) : a ≠ ⊤ := by
  rintro rfl
  revert h
  simp [Ideal.cmp]

section

variable (q : FVec Ideal Cert.Pre_finite_scores.S16384x4096 .bf16) (kv : FVec Ideal Cert.Pre_finite_scores.S16384x1024 .bf16)
  (sg : FVec Ideal Cert.Pre_finite_scores.S16384x4096 .f32) (s : FVec Ideal Cert.Pre_finite_scores.S64 .f32)
  (w : FVec Ideal Cert.Pre_finite_scores.S4096x4096 .f32)

/-- Every query entry is a real number. -/
theorem query_finite (h : (Cert.Pre_finite_scores.fn (F := Ideal) q kv sg s w).1 = fun _ => 1#1)
    (i : Cert.Pre_finite_scores.S16384x4096.Idx) : q i ≠ (⊤ : EReal) ∧ q i ≠ (⊥ : EReal) := by
  have h := congrFun h i
  simp only [Cert.Pre_finite_scores.fn, andi, cmpf, broadcastInDim, constant] at h
  exact ⟨below _ _ (both_one h).2, above _ (both_one h).1⟩

/-- Every entry of a key column is a real number. -/
theorem key_finite (h : (Cert.Pre_finite_scores.fn (F := Ideal) q kv sg s w).2.1 = fun _ => 1#1)
    (i : Cert.Pre_finite_scores.S16384x1024.Idx) (hi : (i 1).val < 512) : kv i ≠ (⊤ : EReal) ∧ kv i ≠ (⊥ : EReal) := by
  have h := congrFun h (ix2 (i 0) ⟨(i 1).val, hi⟩)
  simp only [Cert.Pre_finite_scores.fn, andi, cmpf, broadcastInDim, constant, extractStridedSlice] at h
  have at_col : ∀ j, j = i → IntOp.andi
      (FloatOps.cmpf (F := Ideal) (φ := .bf16) .ogt (kv j) (FloatOps.ofBits (F := Ideal) .bf16 0xFF80#16))
      (FloatOps.cmpf (F := Ideal) (φ := .bf16) .olt (kv j) (FloatOps.ofBits (F := Ideal) .bf16 0x7F80#16)) = 1#1
      → kv i ≠ (⊤ : EReal) ∧ kv i ≠ (⊥ : EReal) := by
    rintro j rfl e
    exact ⟨below _ _ (both_one e).2, above _ (both_one e).1⟩
  exact at_col _ (funext (Fin.forall_fin_two.mpr ⟨Fin.ext (Nat.zero_add _), Fin.ext (Nat.zero_add _)⟩)) h

/-- No sink is plus infinity. -/
theorem sink_below (h : (Cert.Pre_finite_scores.fn (F := Ideal) q kv sg s w).2.2 = fun _ => 1#1)
    (i : Cert.Pre_finite_scores.S64.Idx) : s i ≠ (⊤ : EReal) := by
  have h := congrFun h i
  simp only [Cert.Pre_finite_scores.fn, andi, cmpf, broadcastInDim, constant] at h
  exact below _ _ h

end

end Cert.Proof.Pre

end
-- ==== Proof.ClaimA.lean ====
/- The claim of the attention. -/
module

public import proofs.«01_k».proof.Proof.AttnPre
public import proofs.«01_k».proof.Proof.Gen.ReferenceIdeal.Run
public import proofs.«01_k».proof.Proof.Gen.ReferenceIdeal.Read
public import proofs.«01_k».proof.Defs
public import Idealize.ShloMosaic.Lib.Claim

@[expose] public section

set_option maxRecDepth 16384

noncomputable section

namespace Cert.Proof

open Idealize.ShloMosaic Idealize.SL.Sem

set_option maxHeartbeats 1600000 in
/-- The arrays the kernel leaves are the reference's results, of finite queries and keys and sinks below plus infinity. -/
theorem algebraic_a : Cert.algebraic_KernelIdeal_ReferenceIdeal_pre_finite_scores := by
  pair_intro
  · run_from Cert.KernelIdeal.Gen.run_main m g
  · refine Idealize.ShloMosaic.θ_run_mono (Cert.ReferenceIdeal.Value.run m' g') ?_
    intro r hr c
    obtain ⟨h0, h1, ha⟩ := hr c
    obtain ⟨e0, e1, e2, e3, e4⟩ := hagree c
    refine ⟨h0.trans ?_, h1.trans ?_, ha⟩
    · rw [Cert.ReferenceIdeal.Read.val_main_v71_eq, e0, e1, e2, e3]
      exact (Cert.KernelIdeal.Final.final_y m c (Pre.query_finite _ _ _ _ _ (hpre c).1)
        (Pre.key_finite _ _ _ _ _ (hpre c).2.1) (Pre.sink_below _ _ _ _ _ (hpre c).2.2)).symm
    · rw [e4]
      exact (Cert.KernelIdeal.Final.final_w m c).symm

end Cert.Proof

end
-- ==== Proof.ProjU.lean ====
/- The projection whose result is the recurrent branch's input: the arrays after the run are the product of the
   normalised rows with the staged weight columns, and the cast of the next weight columns. -/
module

public import proofs.«01_k».proof.Proof.Gen.KernelUIdeal.Value
public import proofs.«01_k».proof.Proof.Gen.ReferenceUIdeal.Read
public import Idealize.ShloMosaic.Lib.Pipeline.ValueKit

@[expose] public section

set_option maxRecDepth 16384

noncomputable section

namespace Cert.KernelUIdeal.Final

open Cert.KernelUIdeal Cert.KernelUIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, 0] ∧ win0_1.index t = ![0, t.val % 4] ∧ win0_3.index t = ![t.val / 4, t.val % 4] :=
  (by decide +kernel : ∀ t : Fin grid0.N, _)

theorem idx_cast : ∀ t : Fin cfg0.N, win0_2.index t = ![win0_4.index t 0, win0_4.index t 1 + 4] :=
  (by decide +kernel : ∀ t : Fin grid0.N, _)

/-- The product a grid point stores is the whole product at the place the block has in the array. -/
theorem point_y (c : Dev nD) (t : Fin cfg0.N) (y) : k0_pay2 (F := Ideal) (iblk m c 0 t) (iblk m c 1 t) y
    = Cert.ReferenceUIdeal.Read.val_main_v2 (F := Ideal) (m ((c : Thread nD τ).loc main_arg0)) (m ((c : Thread nD τ).loc main_arg1)) (((cfg0.win 3).blk t).view.emb y) := by
  pointwise [k0_pay2, Cert.ReferenceUIdeal.Read.val_main_v2, Cert.ReferenceUIdeal.Read.val_main_v0, Cert.ReferenceUIdeal.Read.val_main_v1]
  blk_point [iblk, V, idx t]

/-- The product's array after the run. -/
theorem final_y (c : Dev nD) : (dats m 0 c).arrAt 3 (cfgs 0).N
    = Cert.ReferenceUIdeal.Read.val_main_v2 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_y m c t y

/-- The cast weight columns' array after the run. -/
theorem final_w (c : Dev nD) : (dats m 0 c).arrAt 4 (cfgs 0).N
    = Cert.ReferenceUIdeal.Read.val_main_v4 (F := Ideal) (m ((c : Thread nD τ).loc main_arg2)) := by
  refine (dats m 0 c).arrAt_eq_of_covers 4 _ (by decide +kernel) fun t _ y => ?_
  blk_simp
  rw [after0_4]; frame_out
  pointwise [k0_pay1, Cert.ReferenceUIdeal.Read.val_main_v4, Cert.ReferenceUIdeal.Read.val_main_v3]
  blk_point [iblk, V, idx_cast t]

end Cert.KernelUIdeal.Final

end
-- ==== Proof.ClaimU.lean ====
/- The claim of the recurrent branch's input projection. -/
module

public import proofs.«01_k».proof.Proof.ProjU
public import proofs.«01_k».proof.Proof.Gen.ReferenceUIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_u : Cert.algebraic_KernelUIdeal_ReferenceUIdeal := by
  pair_intro
  · run_from Cert.KernelUIdeal.Gen.run_main m g
  · run_from Cert.ReferenceUIdeal.Value.run m' g'
    · exact (Cert.KernelUIdeal.Final.final_y m c).symm
    · exact (Cert.KernelUIdeal.Final.final_w m c).symm

end Cert.Proof

end
-- ==== Proof.ProjQ.lean ====
/- The projection to the queries: the arrays after the run are the product of the
   normalised rows with the staged weight columns, and the cast of the next weight columns. -/
module

public import proofs.«01_k».proof.Proof.Gen.KernelQIdeal.Value
public import proofs.«01_k».proof.Proof.Gen.ReferenceQIdeal.Read
public import Idealize.ShloMosaic.Lib.Pipeline.ValueKit

@[expose] public section

set_option maxRecDepth 16384

noncomputable section

namespace Cert.KernelQIdeal.Final

open Cert.KernelQIdeal Cert.KernelQIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, 0] ∧ win0_1.index t = ![0, t.val % 4] ∧ win0_3.index t = ![t.val / 4, t.val % 4] :=
  (by decide +kernel : ∀ t : Fin grid0.N, _)

theorem idx_cast : ∀ t : Fin cfg0.N, win0_2.index t = ![win0_4.index t 0, win0_4.index t 1 + 13] :=
  (by decide +kernel : ∀ t : Fin grid0.N, _)

/-- The product a grid point stores is the whole product at the place the block has in the array. -/
theorem point_y (c : Dev nD) (t : Fin cfg0.N) (y) : k0_pay2 (F := Ideal) (iblk m c 0 t) (iblk m c 1 t) y
    = Cert.ReferenceQIdeal.Read.val_main_v3 (F := Ideal) (m ((c : Thread nD τ).loc main_arg0)) (m ((c : Thread nD τ).loc main_arg1)) (((cfg0.win 3).blk t).view.emb y) := by
  pointwise [k0_pay2, Cert.ReferenceQIdeal.Read.val_main_v3, Cert.ReferenceQIdeal.Read.val_main_v2, Cert.ReferenceQIdeal.Read.val_main_v0, Cert.ReferenceQIdeal.Read.val_main_v1]
  blk_point [iblk, V, idx t]

/-- The product's array after the run. -/
theorem final_y (c : Dev nD) : (dats m 0 c).arrAt 3 (cfgs 0).N
    = Cert.ReferenceQIdeal.Read.val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_y m c t y

/-- The cast weight columns' array after the run. -/
theorem final_w (c : Dev nD) : (dats m 0 c).arrAt 4 (cfgs 0).N
    = Cert.ReferenceQIdeal.Read.val_main_v5 (F := Ideal) (m ((c : Thread nD τ).loc main_arg2)) := by
  refine (dats m 0 c).arrAt_eq_of_covers 4 _ (by decide +kernel) fun t _ y => ?_
  blk_simp
  rw [after0_4]; frame_out
  pointwise [k0_pay1, Cert.ReferenceQIdeal.Read.val_main_v5, Cert.ReferenceQIdeal.Read.val_main_v4]
  blk_point [iblk, V, idx_cast t]

end Cert.KernelQIdeal.Final

end
-- ==== Proof.ClaimQ.lean ====
/- The claim of the projection to the queries. -/
module

public import proofs.«01_k».proof.Proof.ProjQ
public import proofs.«01_k».proof.Proof.Gen.ReferenceQIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_q : Cert.algebraic_KernelQIdeal_ReferenceQIdeal := by
  pair_intro
  · run_from Cert.KernelQIdeal.Gen.run_main m g
  · run_from Cert.ReferenceQIdeal.Value.run m' g'
    · exact (Cert.KernelQIdeal.Final.final_y m c).symm
    · exact (Cert.KernelQIdeal.Final.final_w m c).symm

end Cert.Proof

end
-- ==== Proof.Sigmoid.lean ====
/- The logistic function two ways: by the hyperbolic tangent of the half, and by the exponential. They agree at every
   extended real, the two infinities included. -/
module

public import Idealize.ShloMosaic.PureOps.Ideal.Laws

@[expose] public section

noncomputable section

namespace Cert.Sigmoid

open Idealize.ShloMosaic

/-- The pattern of one half denotes one half. -/
theorem half_bits : Ideal.ofBits .f32 0x3F000000#32 = ((1 / 2 : ℝ) : EReal) := by
  simp [Ideal.ofBits, Ideal.ieee, -EReal.coe_mul]; norm_num

/-- Over the reals: `tanh (v/2) / 2 + 1/2 = 1 / (1 + exp (-v))`. -/
theorem real_eq (v : ℝ) : 1 / 2 * Real.tanh (1 / 2 * v) + 1 / 2 = (1 + Real.exp (-v))⁻¹ := by
  have h1 : Real.exp v = Real.exp (1 / 2 * v) * Real.exp (1 / 2 * v) := by rw [← Real.exp_add]; ring_nf
  have h2 : Real.exp (-v) * Real.exp v = 1 := by rw [← Real.exp_add]; simp
  have h3 : Real.exp (-(1 / 2 * v)) * Real.exp (1 / 2 * v) = 1 := by rw [← Real.exp_add]; simp
  have p1 := Real.exp_pos (1 / 2 * v)
  have p2 := Real.exp_pos (-(1 / 2 * v))
  have p3 := Real.exp_pos (-v)
  have h4 : Real.exp (-v) = Real.exp (-(1 / 2 * v)) * Real.exp (-(1 / 2 * v)) := by rw [← Real.exp_add]; ring_nf
  rw [Real.tanh_eq_sinh_div_cosh, Real.sinh_eq, Real.cosh_eq, h4]
  generalize Real.exp (1 / 2 * v) = a at *
  generalize Real.exp (-(1 / 2 * v)) = b at *
  have : 0 < a + b := by positivity
  have : 0 < 1 + b * b := by positivity
  field_simp
  nlinarith [h3]

/-- The logistic function by the hyperbolic tangent is the one by the exponential, at every extended real. -/
theorem eq (v : EReal) :
    Ideal.ofBits .f32 0x3F000000#32 * Ideal.tanh (Ideal.ofBits .f32 0x3F000000#32 * v) + Ideal.ofBits .f32 0x3F000000#32
      = Ideal.div 1 (1 + Ideal.exp (-v)) := by
  rw [half_bits]
  induction v using EReal.rec with
  | bot =>
    rw [EReal.coe_mul_bot_of_pos (by norm_num)]
    simp only [Ideal.tanh_bot, EReal.neg_bot, Ideal.exp_top]
    have : (1 : EReal) + ⊤ = ⊤ := rfl
    rw [this]
    simp only [Ideal.div, EReal.inv_top]
    have h : ((1 / 2 : ℝ) : EReal) * (-1) = ((-(1 / 2) : ℝ) : EReal) := by
      rw [show (-1 : EReal) = ((-1 : ℝ) : EReal) from rfl, ← EReal.coe_mul]; norm_num
    rw [h, ← EReal.coe_add]; norm_num
  | top =>
    rw [EReal.coe_mul_top_of_pos (by norm_num)]
    simp only [Ideal.tanh_top, EReal.neg_top, Ideal.exp_bot, add_zero, mul_one]
    rw [← EReal.coe_add, show Ideal.div 1 1 = ((1 : ℝ) : EReal) by
      simp only [Ideal.div, one_ne_zero, if_false, one_mul]
      rw [show (1 : EReal) = ((1 : ℝ) : EReal) from rfl, ← EReal.coe_inv]; norm_num]
    norm_num
  | coe r =>
    rw [← EReal.coe_mul, Ideal.tanh_coe, ← EReal.coe_mul, ← EReal.coe_add, real_eq, ← EReal.coe_neg, Ideal.exp_coe,
      show (1 : EReal) = ((1 : ℝ) : EReal) from rfl, ← EReal.coe_add]
    have hp : (1 + Real.exp (-r) : ℝ) ≠ 0 := by positivity
    have hp' : ((1 + Real.exp (-r) : ℝ) : EReal) ≠ 0 := by simpa using EReal.coe_ne_coe_iff.mpr hp
    rw [Ideal.div, if_neg hp', EReal.coe_one, one_mul, EReal.coe_inv]

end Cert.Sigmoid

end
-- ==== Proof.ProjG.lean ====
/- The projection to a branch's gate: the product times its logistic function, which the kernel computes by the
   hyperbolic tangent and the reference by the exponential. -/
module

public import proofs.«01_k».proof.Proof.Gen.KernelGIdeal.Value
public import proofs.«01_k».proof.Proof.Gen.ReferenceGIdeal.Read
public import proofs.«01_k».proof.Proof.Sigmoid
public import Idealize.ShloMosaic.Lib.Pipeline.ValueKit

@[expose] public section

set_option maxRecDepth 16384

noncomputable section

namespace Cert.KernelGIdeal.Final

open Cert.KernelGIdeal Cert.KernelGIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, 0] ∧ win0_1.index t = ![0, t.val % 4] ∧ win0_3.index t = ![t.val / 4, t.val % 4] :=
  (by decide +kernel : ∀ t : Fin grid0.N, _)

theorem idx_cast : ∀ t : Fin cfg0.N, win0_2.index t = ![win0_4.index t 0, win0_4.index t 1 + 8] :=
  (by decide +kernel : ∀ t : Fin grid0.N, _)

/-- What a grid point stores is the gate at the place the block has in the array. -/
theorem point_y (c : Dev nD) (t : Fin cfg0.N) (y) : k0_pay2 (F := Ideal) (iblk m c 0 t) (iblk m c 1 t) y
    = Cert.ReferenceGIdeal.Read.val_main_v3 (F := Ideal) (m ((c : Thread nD τ).loc main_arg0)) (m ((c : Thread nD τ).loc main_arg1)) (((cfg0.win 3).blk t).view.emb y) := by
  pointwise [k0_pay2, Cert.ReferenceGIdeal.Read.val_main_v3, Cert.ReferenceGIdeal.Read.val_main_call0_v5, Cert.ReferenceGIdeal.Read.val_main_call0_v4, Cert.ReferenceGIdeal.Read.val_main_call0_cst_0, Cert.ReferenceGIdeal.Read.val_main_call0_v3, Cert.ReferenceGIdeal.Read.val_main_call0_v2, Cert.ReferenceGIdeal.Read.val_main_call0_cst, Cert.ReferenceGIdeal.Read.val_main_call0_v1, Cert.ReferenceGIdeal.Read.val_main_call0_v0, Cert.ReferenceGIdeal.Read.val_main_v2, Cert.ReferenceGIdeal.Read.val_main_v1, Cert.ReferenceGIdeal.Read.val_main_v0]
  simp only [Cert.Sigmoid.eq]
  blk_point [iblk, V, idx t]

/-- The gate's array after the run. -/
theorem final_y (c : Dev nD) : (dats m 0 c).arrAt 3 (cfgs 0).N
    = Cert.ReferenceGIdeal.Read.val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_y m c t y

/-- The cast weight columns' array after the run. -/
theorem final_w (c : Dev nD) : (dats m 0 c).arrAt 4 (cfgs 0).N
    = Cert.ReferenceGIdeal.Read.val_main_v5 (F := Ideal) (m ((c : Thread nD τ).loc main_arg2)) := by
  refine (dats m 0 c).arrAt_eq_of_covers 4 _ (by decide +kernel) fun t _ y => ?_
  blk_simp
  rw [after0_4]; frame_out
  pointwise [k0_pay1, Cert.ReferenceGIdeal.Read.val_main_v5, Cert.ReferenceGIdeal.Read.val_main_v4]
  blk_point [iblk, V, idx_cast t]

end Cert.KernelGIdeal.Final

end
-- ==== Proof.ClaimG.lean ====
/- The claim of the projection to a branch's gate. -/
module

public import proofs.«01_k».proof.Proof.ProjG
public import proofs.«01_k».proof.Proof.Gen.ReferenceGIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_g : Cert.algebraic_KernelGIdeal_ReferenceGIdeal := by
  pair_intro
  · run_from Cert.KernelGIdeal.Gen.run_main m g
  · run_from Cert.ReferenceGIdeal.Value.run m' g'
    · exact (Cert.KernelGIdeal.Final.final_y m c).symm
    · exact (Cert.KernelGIdeal.Final.final_w m c).symm

end Cert.Proof

end
-- ==== Proof.ProjM.lean ====
/- The projection to a merge gate: the logistic function of the product, which the kernel computes by the hyperbolic
   tangent and the reference by the exponential. -/
module

public import proofs.«01_k».proof.Proof.Gen.KernelMIdeal.Value
public import proofs.«01_k».proof.Proof.Gen.ReferenceMIdeal.Read
public import proofs.«01_k».proof.Proof.Sigmoid
public import Idealize.ShloMosaic.Lib.Pipeline.ValueKit

@[expose] public section

set_option maxRecDepth 16384

noncomputable section

namespace Cert.KernelMIdeal.Final

open Cert.KernelMIdeal Cert.KernelMIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, 0] ∧ win0_1.index t = ![0, t.val % 4] ∧ win0_3.index t = ![t.val / 4, t.val % 4] :=
  (by decide +kernel : ∀ t : Fin grid0.N, _)

theorem idx_cast : ∀ t : Fin cfg0.N, win0_2.index t = ![win0_4.index t 0, win0_4.index t 1 + 21] :=
  (by decide +kernel : ∀ t : Fin grid0.N, _)

/-- What a grid point stores is the gate at the place the block has in the array. -/
theorem point_y (c : Dev nD) (t : Fin cfg0.N) (y) : k0_pay2 (F := Ideal) (iblk m c 0 t) (iblk m c 1 t) y
    = Cert.ReferenceMIdeal.Read.val_main_v8 (F := Ideal) (m ((c : Thread nD τ).loc main_arg0)) (m ((c : Thread nD τ).loc main_arg1)) (((cfg0.win 3).blk t).view.emb y) := by
  pointwise [k0_pay2, Cert.ReferenceMIdeal.Read.val_main_v8, Cert.ReferenceMIdeal.Read.val_main_v7, Cert.ReferenceMIdeal.Read.val_main_cst_0, Cert.ReferenceMIdeal.Read.val_main_v6, Cert.ReferenceMIdeal.Read.val_main_v5, Cert.ReferenceMIdeal.Read.val_main_cst, Cert.ReferenceMIdeal.Read.val_main_v4, Cert.ReferenceMIdeal.Read.val_main_v3, Cert.ReferenceMIdeal.Read.val_main_v2, Cert.ReferenceMIdeal.Read.val_main_v1, Cert.ReferenceMIdeal.Read.val_main_v0]
  simp only [Cert.Sigmoid.eq]
  blk_point [iblk, V, idx t]

/-- The gate's array after the run. -/
theorem final_y (c : Dev nD) : (dats m 0 c).arrAt 3 (cfgs 0).N
    = Cert.ReferenceMIdeal.Read.val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_y m c t y

/-- The cast weight columns' array after the run. -/
theorem final_w (c : Dev nD) : (dats m 0 c).arrAt 4 (cfgs 0).N
    = Cert.ReferenceMIdeal.Read.val_main_v10 (F := Ideal) (m ((c : Thread nD τ).loc main_arg2)) := by
  refine (dats m 0 c).arrAt_eq_of_covers 4 _ (by decide +kernel) fun t _ y => ?_
  blk_simp
  rw [after0_4]; frame_out
  pointwise [k0_pay1, Cert.ReferenceMIdeal.Read.val_main_v10, Cert.ReferenceMIdeal.Read.val_main_v9]
  blk_point [iblk, V, idx_cast t]

end Cert.KernelMIdeal.Final

end
-- ==== Proof.ClaimM.lean ====
/- The claim of the projection to a merge gate. -/
module

public import proofs.«01_k».proof.Proof.ProjM
public import proofs.«01_k».proof.Proof.Gen.ReferenceMIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_m : Cert.algebraic_KernelMIdeal_ReferenceMIdeal := by
  pair_intro
  · run_from Cert.KernelMIdeal.Gen.run_main m g
  · run_from Cert.ReferenceMIdeal.Value.run m' g'
    · exact (Cert.KernelMIdeal.Final.final_y m c).symm
    · exact (Cert.KernelMIdeal.Final.final_w m c).symm

end Cert.Proof

end
-- ==== Proof.NormProj.lean ====
/- The first norm, its modulation by scale and shift, and the product with the key and value weights: the kernel multiplies
   the row's reciprocal root by gain times one plus scale, the reference by the one and then by the other. -/
module

public import proofs.«01_k».proof.Proof.Gen.KernelNIdeal.Value
public import proofs.«01_k».proof.Proof.Gen.ReferenceNIdeal.Read
public import Idealize.ShloMosaic.Lib.Pipeline.ValueKit

@[expose] public section

set_option maxRecDepth 16384

noncomputable section

namespace Cert.KernelNIdeal.Final

open Cert.KernelNIdeal Cert.KernelNIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_6.index t = ![t.val, 0] ∧ win0_7.index t = ![t.val, 0] :=
  (by decide +kernel : ∀ t : Fin grid0.N, _)

theorem idx_cast : ∀ t : Fin cfg0.N, win0_5.index t = win0_8.index t :=
  (by decide +kernel : ∀ t : Fin grid0.N, _)

/-- The normalised and modulated rows, as the reference computes them from the launch contents of the arguments. -/
abbrev rows (c : Dev nD) := Cert.ReferenceNIdeal.Read.val_main_v24 (F := Ideal)
  (m ((c : Thread nD τ).loc main_arg0)) (m ((c : Thread nD τ).loc main_arg1)) (m ((c : Thread nD τ).loc main_arg2))
  (m ((c : Thread nD τ).loc main_arg3))

/-- What a grid point stores of the rows is the rows at the place the block has in the array. -/
theorem point_h (c : Dev nD) (t : Fin cfg0.N) (y) :
    k0_pay2 (F := Ideal) (iblk m c 0 t) (iblk m c 1 t) (iblk m c 2 t) (iblk m c 3 t) y
    = rows m c (((cfg0.win 6).blk t).view.emb y) := by
  pointwise [k0_pay2, rows, Cert.ReferenceNIdeal.Read.val_main_v24, Cert.ReferenceNIdeal.Read.val_main_v21, Cert.ReferenceNIdeal.Read.val_main_v20, Cert.ReferenceNIdeal.Read.val_main_v19, Cert.ReferenceNIdeal.Read.val_main_v18, Cert.ReferenceNIdeal.Read.val_main_v17, Cert.ReferenceNIdeal.Read.val_main_v16, Cert.ReferenceNIdeal.Read.val_main_v15, Cert.ReferenceNIdeal.Read.val_main_v14, Cert.ReferenceNIdeal.Read.val_main_v13, Cert.ReferenceNIdeal.Read.val_main_v12, Cert.ReferenceNIdeal.Read.val_main_v11, Cert.ReferenceNIdeal.Read.val_main_v10, Cert.ReferenceNIdeal.Read.val_main_v9, Cert.ReferenceNIdeal.Read.val_main_v8, Cert.ReferenceNIdeal.Read.val_main_v7, Cert.ReferenceNIdeal.Read.val_main_v6, Cert.ReferenceNIdeal.Read.val_main_v5, Cert.ReferenceNIdeal.Read.val_main_v4, Cert.ReferenceNIdeal.Read.val_main_v3, Cert.ReferenceNIdeal.Read.val_main_v2, Cert.ReferenceNIdeal.Read.val_main_v1, Cert.ReferenceNIdeal.Read.val_main_v0, Cert.ReferenceNIdeal.Read.val_main_cst, Cert.ReferenceNIdeal.Read.val_main_cst_0, Cert.ReferenceNIdeal.Read.val_main_cst_1, Cert.ReferenceNIdeal.Read.val_main_cst_2]
  simp only [← mul_assoc]
  blk_point [iblk, V, idx t]

/-- The keys and values, as the reference computes them from the launch contents of the arguments. -/
abbrev keysValues (c : Dev nD) := Cert.ReferenceNIdeal.Read.val_main_v25 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

/-- What a grid point stores of the keys and values is those at the place the block has in the array. -/
theorem point_kv (c : Dev nD) (t : Fin cfg0.N) (y) :
    k0_pay3 (F := Ideal) (iblk m c 0 t) (iblk m c 1 t) (iblk m c 2 t) (iblk m c 3 t) (iblk m c 4 t) y
    = keysValues m c (((cfg0.win 7).blk t).view.emb y) := by
  pointwise [k0_pay3, k0_pay2, keysValues, Cert.ReferenceNIdeal.Read.val_main_v25, Cert.ReferenceNIdeal.Read.val_main_v24, Cert.ReferenceNIdeal.Read.val_main_v23, Cert.ReferenceNIdeal.Read.val_main_v22, Cert.ReferenceNIdeal.Read.val_main_v21, Cert.ReferenceNIdeal.Read.val_main_v20, Cert.ReferenceNIdeal.Read.val_main_v19, Cert.ReferenceNIdeal.Read.val_main_v18, Cert.ReferenceNIdeal.Read.val_main_v17, Cert.ReferenceNIdeal.Read.val_main_v16, Cert.ReferenceNIdeal.Read.val_main_v15, Cert.ReferenceNIdeal.Read.val_main_v14, Cert.ReferenceNIdeal.Read.val_main_v13, Cert.ReferenceNIdeal.Read.val_main_v12, Cert.ReferenceNIdeal.Read.val_main_v11, Cert.ReferenceNIdeal.Read.val_main_v10, Cert.ReferenceNIdeal.Read.val_main_v9, Cert.ReferenceNIdeal.Read.val_main_v8, Cert.ReferenceNIdeal.Read.val_main_v7, Cert.ReferenceNIdeal.Read.val_main_v6, Cert.ReferenceNIdeal.Read.val_main_v5, Cert.ReferenceNIdeal.Read.val_main_v4, Cert.ReferenceNIdeal.Read.val_main_v3, Cert.ReferenceNIdeal.Read.val_main_v2, Cert.ReferenceNIdeal.Read.val_main_v1, Cert.ReferenceNIdeal.Read.val_main_v0, Cert.ReferenceNIdeal.Read.val_main_cst, Cert.ReferenceNIdeal.Read.val_main_cst_0, Cert.ReferenceNIdeal.Read.val_main_cst_1, Cert.ReferenceNIdeal.Read.val_main_cst_2]
  simp only [← mul_assoc]
  blk_point [iblk, V, idx t]

/-- The rows' array after the run. -/
theorem final_h (c : Dev nD) : (dats m 0 c).arrAt 6 (cfgs 0).N = rows m c := by
  refine (dats m 0 c).arrAt_eq_of_covers 6 _ (by decide +kernel) fun t _ y => ?_
  blk_simp
  rw [after0_6]; frame_out
  exact point_h m c t y

/-- The keys' and values' array after the run. -/
theorem final_kv (c : Dev nD) : (dats m 0 c).arrAt 7 (cfgs 0).N = keysValues m c := by
  refine (dats m 0 c).arrAt_eq_of_covers 7 _ (by decide +kernel) fun t _ y => ?_
  blk_simp
  rw [after0_7]; frame_out
  exact point_kv m c t y

/-- The cast weight columns' array after the run. -/
theorem final_w (c : Dev nD) : (dats m 0 c).arrAt 8 (cfgs 0).N
    = Cert.ReferenceNIdeal.Read.val_main_v27 (F := Ideal) (m ((c : Thread nD τ).loc main_arg5)) := by
  refine (dats m 0 c).arrAt_eq_of_covers 8 _ (by decide +kernel) fun t _ y => ?_
  blk_simp
  rw [after0_8]; frame_out
  pointwise [k0_pay1, Cert.ReferenceNIdeal.Read.val_main_v27, Cert.ReferenceNIdeal.Read.val_main_v26]
  blk_point [iblk, V, idx_cast t]

end Cert.KernelNIdeal.Final

end
-- ==== Proof.ClaimN.lean ====
/- The claim of the first norm and of the keys and values. -/
module

public import proofs.«01_k».proof.Proof.NormProj
public import proofs.«01_k».proof.Proof.Gen.ReferenceNIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_n : Cert.algebraic_KernelNIdeal_ReferenceNIdeal := by
  pair_intro
  · run_from Cert.KernelNIdeal.Gen.run_main m g
  · run_from Cert.ReferenceNIdeal.Value.run m' g'
    · exact (Cert.KernelNIdeal.Final.final_h m c).symm
    · exact (Cert.KernelNIdeal.Final.final_kv m c).symm
    · exact (Cert.KernelNIdeal.Final.final_w m c).symm

end Cert.Proof

end
-- ==== Proof.Merge.lean ====
/- The merge of the two branches: the array after the run is the gated sum of the two branches' products with their weights. -/
module

public import proofs.«01_k».proof.Proof.Gen.KernelBIdeal.Value
public import proofs.«01_k».proof.Proof.Gen.ReferenceBIdeal.Read
public import Idealize.ShloMosaic.Lib.Pipeline.ValueKit

@[expose] public section

set_option maxRecDepth 16384

noncomputable section

namespace Cert.KernelBIdeal.Final

open Cert.KernelBIdeal Cert.KernelBIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val % 32, 0] ∧ win0_1.index t = ![0, t.val / 32]
    ∧ win0_2.index t = ![0, t.val / 32] ∧ win0_3.index t = ![t.val % 32, 0] ∧ win0_4.index t = ![t.val % 32, t.val / 32]
    ∧ win0_5.index t = ![t.val % 32, t.val / 32] ∧ win0_6.index t = ![t.val % 32, t.val / 32] :=
  (by decide +kernel : ∀ t : Fin grid0.N, _)

/-- The merged rows, as the reference computes them from the launch contents of the arguments. -/
abbrev merged (c : Dev nD) := Cert.ReferenceBIdeal.Read.val_main_v9 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- What a grid point stores is the merged rows at the place the block has in the array. -/
theorem point_y (c : Dev nD) (t : Fin cfg0.N) (y) :
    k0_pay1 (F := Ideal) (iblk m c 0 t) (iblk m c 1 t) (iblk m c 3 t) (iblk m c 2 t) (iblk m c 4 t) (iblk m c 5 t) y
    = merged m c (((cfg0.win 6).blk t).view.emb y) := by
  pointwise [k0_pay1, merged, Cert.ReferenceBIdeal.Read.val_main_v9, Cert.ReferenceBIdeal.Read.val_main_v8,
    Cert.ReferenceBIdeal.Read.val_main_v7, Cert.ReferenceBIdeal.Read.val_main_v6, Cert.ReferenceBIdeal.Read.val_main_v5,
    Cert.ReferenceBIdeal.Read.val_main_v4, Cert.ReferenceBIdeal.Read.val_main_v3, Cert.ReferenceBIdeal.Read.val_main_v2,
    Cert.ReferenceBIdeal.Read.val_main_v1, Cert.ReferenceBIdeal.Read.val_main_v0]
  blk_point [iblk, V, idx t]

/-- The array after the run. -/
theorem final_y (c : Dev nD) : (dats m 0 c).arrAt 6 (cfgs 0).N = merged m c := by
  refine (dats m 0 c).arrAt_eq_of_covers 6 _ (by decide +kernel) fun t _ y => ?_
  blk_simp
  rw [after0_6]; frame_out
  exact point_y m c t y

end Cert.KernelBIdeal.Final

end
-- ==== Proof.ClaimB.lean ====
/- The claim of the merge of the two branches. -/
module

public import proofs.«01_k».proof.Proof.Merge
public import proofs.«01_k».proof.Proof.Gen.ReferenceBIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_b : Cert.algebraic_KernelBIdeal_ReferenceBIdeal := by
  pair_intro
  · run_from Cert.KernelBIdeal.Gen.run_main m g
  · run_from Cert.ReferenceBIdeal.Value.run m' g'
    exact (Cert.KernelBIdeal.Final.final_y m c).symm

end Cert.Proof

end
-- ==== Proof.OutNorm.lean ====
/- The output projection with the residual and the final norm: each point of a row of blocks computes one slice of the
   residual sum, and the last point multiplies every slice by the reciprocal root of the row's mean square and by the gain.
   The mean square is summed slice by slice; it is the sum over the whole row. -/
module

public import proofs.«01_k».proof.Proof.OutData
public import proofs.«01_k».proof.Proof.Gen.ReferenceOIdeal.Read
public import Idealize.ShloMosaic.Lib.Pipeline.ValueKit

@[expose] public section

set_option maxRecDepth 16384

noncomputable section

namespace Cert.KernelOIdeal.Final

open Cert.KernelOIdeal Cert.KernelOIdeal.Gen Cert.KernelOIdeal.Out Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![t.val / 4, 0] ∧ win0_1.index t = ![0, t.val % 4]
    ∧ win0_2.index t = ![t.val / 4, t.val % 4] ∧ win0_3.index t = ![0, t.val % 4] ∧ win0_4.index t = ![0, 0]
    ∧ win0_5.index t = ![t.val / 4, 0] :=
  (by decide +kernel : ∀ t : Fin grid0.N, _)

/-- The residual sum, as the reference computes it from the launch contents of the arguments. -/
abbrev sums (c : Dev nD) := Cert.ReferenceOIdeal.Read.val_main_v6 (F := Ideal)
  (m ((c : Thread nD τ).loc main_arg0)) (m ((c : Thread nD τ).loc main_arg1)) (m ((c : Thread nD τ).loc main_arg2))
  (m ((c : Thread nD τ).loc main_arg3))

/-- The slice a grid point computes is the residual sum at its rows and columns. -/
theorem slice_at (c : Dev nD) (t : Fin cfg0.N) (y : S1x512x1024.Idx) (i : S16384x4096.Idx)
    (e0 : (i 0).val = t.val / 4 * 512 + (y 1).val) (e1 : (i 1).val = t.val % 4 * 1024 + (y 2).val) :
    slice m c t y = sums m c i := by
  unfold slice
  pointwise [k0_pay1, sums, Cert.ReferenceOIdeal.Read.val_main_v6, Cert.ReferenceOIdeal.Read.val_main_v5, Cert.ReferenceOIdeal.Read.val_main_v4, Cert.ReferenceOIdeal.Read.val_main_v3, Cert.ReferenceOIdeal.Read.val_main_v2, Cert.ReferenceOIdeal.Read.val_main_v1, Cert.ReferenceOIdeal.Read.val_main_v0]
  blk_point [iblk, V, idx t]

/-- A sum over a row of 4096 is the sum of its four quarters. -/
theorem sum_quarters (f : Fin 4096 → EReal) : ∑ k : Fin 4096, f k
    = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [show (∑ k : Fin 4096, f k) = ∑ k : Fin (3072 + 1024), f k from rfl, Fin.sum_univ_add]
  congr 1
  rw [show (∑ k : Fin 3072, f (Fin.castAdd 1024 k)) = ∑ k : Fin (2048 + 1024), f (Fin.castAdd 1024 k) from rfl, Fin.sum_univ_add]
  congr 1
  rw [show (∑ k : Fin 2048, f (Fin.castAdd 1024 (Fin.castAdd 1024 k)))
    = ∑ k : Fin (1024 + 1024), f (Fin.castAdd 1024 (Fin.castAdd 1024 k)) from rfl, Fin.sum_univ_add]
  rfl

/-- A load of a slice right after its store reads what was stored. -/
theorem load_stored (off : Fin 3 → ℕ) (h : off = ![3, 0, 0]) (inb : ∀ a, off a + S1x512x1024.size a ≤ S4x512x1024.size a)
    (w : Vec Ideal S1x512x1024 .f32) :
    View.readCov (Val := Elt Ideal) scM0_0.view [⟨Rect.unit off S1x512x1024.size inb, w⟩]
      (Rect.unit (s := S4x512x1024) ![3, 0, 0] S1x512x1024.size inb_S4x512x1024_S1x512x1024_3_0_0).toLoadRect = w := by
  subst h
  exact View.readCov_cons_toLoadRect _ _ _ _

/-- The slice of the row's last point, read back from the scratch right after its store. -/
theorem own_slice (c : Dev nD) (t : Fin cfg0.N) (h : t.val % 4 = 3) :
    kernelRun0_B.sl.v79 c (grid0.coords t) (ms0_0 t) (hs0_0 t) (ms0_1 t) (hs0_1 t) (ms0_2 t) (hs0_2 t) (ms0_3 t) (hs0_3 t) scM0_0
      (iblk m c 0 t) (iblk m c 1 t) (iblk m c 2 t) (iblk m c 3 t) = slice m c t := by
  unfold kernelRun0_B.sl.v79 kernelRun0_B.sl.HS0_1 slice
  refine (load_stored _ (off_last t h) (k0_off1_inb _) _).trans ?_
  rw [load_whole _ _ _ _ (by decide), load_whole _ _ _ _ (by decide), load_whole _ _ _ _ (by decide),
    load_whole _ _ _ _ (by decide)]

/-- The sum of squares that the row's last point forms from the four slices. -/
theorem squares (c : Dev nD) (t : Fin cfg0.N) (h : t.val % 4 = 3) :
    kernelRun0_B.sl.r c (grid0.coords t) (ms0_0 t) (hs0_0 t) (ms0_1 t) (hs0_1 t) (ms0_2 t) (hs0_2 t) (ms0_3 t) (hs0_3 t) scM0_0
      (iblk m c 0 t) (iblk m c 1 t) (iblk m c 2 t) (iblk m c 3 t) (slice m c (back t 3)) (slice m c (back t 2)) (slice m c (back t 1))
      = k0_pay3 (slice m c (back t 3)) (slice m c (back t 3)) (slice m c (back t 2)) (slice m c (back t 2))
        (slice m c (back t 1)) (slice m c (back t 1)) (slice m c t) (slice m c t) := by
  unfold kernelRun0_B.sl.r
  rw [show kernelRun0_B.sl.v39 c (grid0.coords t) (ms0_0 t) (hs0_0 t) (ms0_1 t) (hs0_1 t) (ms0_2 t) (hs0_2 t) (ms0_3 t) (hs0_3 t) scM0_0
      (iblk m c 0 t) (iblk m c 1 t) (iblk m c 2 t) (iblk m c 3 t) = slice m c t from own_slice m c t h]

/-- The normalised row, as the reference computes it from the launch contents of the arguments. -/
abbrev rows (c : Dev nD) := Cert.ReferenceOIdeal.Read.val_main_v19 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

/-- The sum of squares over a whole row of the residual sum is the sum over the row's four slices. -/
theorem row_squares (c : Dev nD) (t : Fin cfg0.N) (h : t.val % 4 = 3) (r : Fin 16384) (p : Fin 512)
    (e : r.val = t.val / 4 * 512 + p.val) :
    ∑ x : Fin 4096, sums m c (ix2 r x) * sums m c (ix2 r x)
      = (((∑ x : Fin 1024, slice m c (back t 3) (ix3 0 p x) * slice m c (back t 3) (ix3 0 p x))
        + ∑ x : Fin 1024, slice m c (back t 2) (ix3 0 p x) * slice m c (back t 2) (ix3 0 p x))
        + ∑ x : Fin 1024, slice m c (back t 1) (ix3 0 p x) * slice m c (back t 1) (ix3 0 p x))
        + ∑ x : Fin 1024, slice m c t (ix3 0 p x) * slice m c t (ix3 0 p x) := by
  have part : ∀ (u : Fin cfg0.N) (z : Fin 4096) (x : Fin 1024), u.val / 4 = t.val / 4 → z.val = u.val % 4 * 1024 + x.val →
      sums m c (ix2 r z) = slice m c u (ix3 0 p x) := fun u z x hu hz =>
    (slice_at m c u (ix3 0 p x) (ix2 r z) (by show r.val = u.val / 4 * 512 + p.val; rw [hu, e]) hz).symm
  rw [sum_quarters]
  have e3 : (back t 3).val = t.val - 3 := rfl
  have e2 : (back t 2).val = t.val - 2 := rfl
  have e1 : (back t 1).val = t.val - 1 := rfl
  have q0 : ∀ x : Fin 1024, sums m c (ix2 r ⟨x.val, by omega⟩) = slice m c (back t 3) (ix3 0 p x) := fun x =>
    part _ _ _ (by omega) (by rw [e3]; show x.val = _; omega)
  have q1 : ∀ x : Fin 1024, sums m c (ix2 r ⟨1024 + x.val, by omega⟩) = slice m c (back t 2) (ix3 0 p x) := fun x =>
    part _ _ _ (by omega) (by rw [e2]; show 1024 + x.val = _; omega)
  have q2 : ∀ x : Fin 1024, sums m c (ix2 r ⟨2048 + x.val, by omega⟩) = slice m c (back t 1) (ix3 0 p x) := fun x =>
    part _ _ _ (by omega) (by rw [e1]; show 2048 + x.val = _; omega)
  have q3 : ∀ x : Fin 1024, sums m c (ix2 r ⟨3072 + x.val, by omega⟩) = slice m c t (ix3 0 p x) := fun x =>
    part _ _ _ (by omega) (by show 3072 + x.val = _; omega)
  simp only [q0, q1, q2, q3]

/-- One stored element: the slice's element times the reciprocal root of the row's mean square times the gain. -/
theorem element (c : Dev nD) (t u : Fin cfg0.N) (h : t.val % 4 = 3) (hu : u.val / 4 = t.val / 4) (i : S16384x4096.Idx)
    (p : Fin 512) (q : Fin 1024) (e0 : (i 0).val = t.val / 4 * 512 + p.val) (e1 : (i 1).val = u.val % 4 * 1024 + q.val)
    (d e g g' : EReal) (hg : g = g') :
    slice m c u (ix3 0 p q) * Ideal.rsqrt (Ideal.div ((((∑ x : Fin 1024, slice m c (back t 3) (ix3 0 p x) * slice m c (back t 3) (ix3 0 p x))
        + ∑ x : Fin 1024, slice m c (back t 2) (ix3 0 p x) * slice m c (back t 2) (ix3 0 p x))
        + ∑ x : Fin 1024, slice m c (back t 1) (ix3 0 p x) * slice m c (back t 1) (ix3 0 p x))
        + ∑ x : Fin 1024, slice m c t (ix3 0 p x) * slice m c t (ix3 0 p x)) d + e) * g
      = sums m c i * Ideal.rsqrt (Ideal.div (∑ x : Fin 4096, sums m c (ix2 (i 0) x) * sums m c (ix2 (i 0) x)) d + e) * g' := by
  rw [row_squares m c t h (i 0) p e0, slice_at m c u (ix3 0 p q) i (by rw [hu]; exact e0) e1, hg]

/-- The output block is written back at the last point of its row. -/
theorem last_of_flush : ∀ t : Fin cfg0.N, (cfg0.win 5).flush t = true ↔ t.val % 4 = 3 :=
  (by decide +kernel : ∀ t : Fin grid0.N, _)

/-- The output's array after the run. -/
theorem final_y (c : Dev nD) : (dats m 0 c).arrAt 5 (cfgs 0).N = Cert.ReferenceOIdeal.Read.val_main_v19 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) := by
  refine (dats m 0 c).arrAt_eq_of_covers 5 _ (by decide +kernel) fun t ht y => ?_
  have h : t.val % 4 = 3 := (last_of_flush t).mp ht
  blk_simp
  rw [after0_5 m c t h]
  unfold rowBlock
  rw [View.read_writes_apply_eq_canon _ _ _ _ (cover m c t h y)]
  unfold kernelRun0_B
  dsimp only
  canon_tiles x k
  all_goals
    simp only [kernelRun0_B.sl.r_1, squares m c t h, own_slice m c t h, kernelRun0_B.sl.cst_34]
  all_goals
    pointwise [k0_pay2, k0_pay4, k0_pay5, k0_pay6, k0_pay7, k0_pay3, rows, Cert.ReferenceOIdeal.Read.val_main_v19, Cert.ReferenceOIdeal.Read.val_main_v18, Cert.ReferenceOIdeal.Read.val_main_v17, Cert.ReferenceOIdeal.Read.val_main_v16, Cert.ReferenceOIdeal.Read.val_main_v15, Cert.ReferenceOIdeal.Read.val_main_v14, Cert.ReferenceOIdeal.Read.val_main_v13, Cert.ReferenceOIdeal.Read.val_main_v12, Cert.ReferenceOIdeal.Read.val_main_v11, Cert.ReferenceOIdeal.Read.val_main_v10, Cert.ReferenceOIdeal.Read.val_main_v9, Cert.ReferenceOIdeal.Read.val_main_v8, Cert.ReferenceOIdeal.Read.val_main_v7, Cert.ReferenceOIdeal.Read.val_main_cst, Cert.ReferenceOIdeal.Read.val_main_cst_0, Cert.ReferenceOIdeal.Read.val_main_cst_1]
  · refine element m c t t h ?_ _ _ _ ?_ ?_ _ _ _ _ ?_
    · rfl
    · blk_simp [idx t]; omega
    · blk_simp [idx t]; omega
    · rw [Memref.IsWhole.readAt_unread]
      blk_point [iblk, V, idx t]
  · refine element m c t (back t 1) h ?_ _ _ _ ?_ ?_ _ _ _ _ ?_
    · show (t.val - 1) / 4 = t.val / 4; omega
    · blk_simp [idx t]; omega
    · rw [show (back t 1).val = t.val - 1 from rfl]; blk_simp [idx t]; omega
    · rw [Memref.IsWhole.readAt_unread]
      blk_point [iblk, V, idx t]
  · refine element m c t (back t 2) h ?_ _ _ _ ?_ ?_ _ _ _ _ ?_
    · show (t.val - 2) / 4 = t.val / 4; omega
    · blk_simp [idx t]; omega
    · rw [show (back t 2).val = t.val - 2 from rfl]; blk_simp [idx t]; omega
    · rw [Memref.IsWhole.readAt_unread]
      blk_point [iblk, V, idx t]
  · refine element m c t (back t 3) h ?_ _ _ _ ?_ ?_ _ _ _ _ ?_
    · show (t.val - 3) / 4 = t.val / 4; omega
    · blk_simp [idx t]; omega
    · rw [show (back t 3).val = t.val - 3 from rfl]; blk_simp [idx t]; omega
    · rw [Memref.IsWhole.readAt_unread]
      blk_point [iblk, V, idx t]

end Cert.KernelOIdeal.Final

end
-- ==== Proof.ClaimO.lean ====
/- The claim of the output projection with the residual and the final norm. -/
module

public import proofs.«01_k».proof.Proof.OutNorm
public import proofs.«01_k».proof.Proof.Gen.ReferenceOIdeal.Run
public import proofs.«01_k».proof.Defs
public import Idealize.ShloMosaic.Lib.Claim

@[expose] public section

set_option maxRecDepth 16384

noncomputable section

namespace Cert.Proof

open Idealize.ShloMosaic Idealize.SL.Sem

/-- The array the kernel leaves is the reference's result. -/
theorem algebraic_o : Cert.algebraic_KernelOIdeal_ReferenceOIdeal := by
  pair_intro
  · run_from Cert.KernelOIdeal.Out.run_main m g
  · run_from Cert.ReferenceOIdeal.Value.run m' g'
    exact (Cert.KernelOIdeal.Final.final_y m c).symm

end Cert.Proof

end
-- ==== Proof.Modulation.lean ====
/- The modulation: shift, scale and gate in one row, the product of the activated conditioning vector with the weights
   plus the bias. The kernel keeps the vector as a column and sums down the rows of the weighted matrix. -/
module

public import proofs.«01_k».proof.Proof.Gen.KernelDIdeal.Value
public import proofs.«01_k».proof.Proof.Gen.ReferenceDIdeal.Read
public import proofs.«01_k».proof.Proof.Sigmoid
public import Idealize.ShloMosaic.Lib.Pipeline.ValueKit

@[expose] public section

set_option maxRecDepth 16384

noncomputable section

namespace Cert.KernelDIdeal.Final

open Cert.KernelDIdeal Cert.KernelDIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The modulation's row, as the reference computes it from the launch contents of the arguments. -/
abbrev row (c : Dev nD) := Cert.ReferenceDIdeal.Read.val_main_v3 (F := Ideal)
  (m ((c : Thread nD τ).loc main_arg0)) (m ((c : Thread nD τ).loc main_arg1)) (m ((c : Thread nD τ).loc main_arg2))

/-- What a grid point stores is the row at the place the block has in the array. -/
theorem point_y (c : Dev nD) (t : Fin cfg0.N) (y) :
    k0_pay1 (F := Ideal) (iblk m c 0 t) (iblk m c 1 t) (iblk m c 2 t) y = row m c (((cfg0.win 3).blk t).view.emb y) := by
  pointwise [k0_pay1, row, Cert.ReferenceDIdeal.Read.val_main_v3, Cert.ReferenceDIdeal.Read.val_main_v2, Cert.ReferenceDIdeal.Read.val_main_v1, Cert.ReferenceDIdeal.Read.val_main_v0,
    Cert.ReferenceDIdeal.Read.val_main_call0_v5, Cert.ReferenceDIdeal.Read.val_main_call0_v4, Cert.ReferenceDIdeal.Read.val_main_call0_cst_0, Cert.ReferenceDIdeal.Read.val_main_call0_v3, Cert.ReferenceDIdeal.Read.val_main_call0_v2, Cert.ReferenceDIdeal.Read.val_main_call0_cst, Cert.ReferenceDIdeal.Read.val_main_call0_v1, Cert.ReferenceDIdeal.Read.val_main_call0_v0]
  simp only [Cert.Sigmoid.eq]
  blk_point [iblk, V, idx t]

/-- The row's array after the run. -/
theorem final_y (c : Dev nD) : (dats m 0 c).arrAt 3 (cfgs 0).N = row m c := by
  refine (dats m 0 c).arrAt_eq_of_covers 3 _ (by decide +kernel) fun t _ y => ?_
  blk_simp
  rw [after0_3]; frame_out
  exact point_y m c t y

end Cert.KernelDIdeal.Final

end
-- ==== Proof.ClaimD.lean ====
/- The claim of the modulation. -/
module

public import proofs.«01_k».proof.Proof.Modulation
public import proofs.«01_k».proof.Proof.Gen.ReferenceDIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_d : Cert.algebraic_KernelDIdeal_ReferenceDIdeal := by
  pair_intro
  · run_from Cert.KernelDIdeal.Gen.run_main m g
  · run_from Cert.ReferenceDIdeal.Value.run m' g'
    exact (Cert.KernelDIdeal.Final.final_y m c).symm

end Cert.Proof

end
-- ==== Proof.CastCols.lean ====
/- The first cast: the weight columns of the keys and values, rounded to bfloat16, which over the extended reals changes
   nothing. -/
module

public import proofs.«01_k».proof.Proof.Gen.KernelCIdeal.Value
public import proofs.«01_k».proof.Proof.Gen.ReferenceCIdeal.Read

public import Idealize.ShloMosaic.Lib.Pipeline.ValueKit

@[expose] public section

set_option maxRecDepth 16384

noncomputable section

namespace Cert.KernelCIdeal.Final

open Cert.KernelCIdeal Cert.KernelCIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at grid point `t`: the columns taken begin twelve blocks into the weights. -/
theorem idx : ∀ t : Fin cfg0.N, win0_0.index t = ![win0_1.index t 0, win0_1.index t 1 + 12] :=
  (by decide +kernel : ∀ t : Fin grid0.N, _)

/-- The cast weight columns' array after the run. -/
theorem final_w (c : Dev nD) : (dats m 0 c).arrAt 1 (cfgs 0).N
    = Cert.ReferenceCIdeal.Read.val_main_v1 (F := Ideal) (m ((c : Thread nD τ).loc main_arg0)) := by
  refine (dats m 0 c).arrAt_eq_of_covers 1 _ (by decide +kernel) fun t _ y => ?_
  blk_simp
  rw [after0_1]; frame_out
  pointwise [k0_pay1, Cert.ReferenceCIdeal.Read.val_main_v1, Cert.ReferenceCIdeal.Read.val_main_v0]
  blk_point [iblk, V, idx t]

end Cert.KernelCIdeal.Final

end
-- ==== Proof.ClaimC.lean ====
/- The claim of the first cast. -/
module

public import proofs.«01_k».proof.Proof.CastCols
public import proofs.«01_k».proof.Proof.Gen.ReferenceCIdeal.Run
public import proofs.«01_k».proof.Defs
public import Idealize.ShloMosaic.Lib.Claim

@[expose] public section

set_option maxRecDepth 16384

noncomputable section

namespace Cert.Proof

open Idealize.ShloMosaic Idealize.SL.Sem

/-- The arrays the kernel leaves are the reference's results. -/
theorem algebraic_c : Cert.algebraic_KernelCIdeal_ReferenceCIdeal := by
  pair_intro
  · run_from Cert.KernelCIdeal.Gen.run_main m g
  · run_from Cert.ReferenceCIdeal.Value.run m' g'
    exact (Cert.KernelCIdeal.Final.final_w m c).symm

end Cert.Proof

end
-- ==== Proof.lean ====
/- The layer's calls, one after another: each leaves its arguments unchanged and every counter at zero, and its result
   arrays, over the extended reals, are its reference's (the recurrence: no value). The mathematics is in the modules under Proof/. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelU.Frame
public import proofs.«01_k».proof.Proof.Gen.KernelUIdeal.Frame
public import proofs.«01_k».proof.Proof.Gen.ReferenceUIdeal.Run
public import proofs.«01_k».proof.Proof.Gen.KernelQ.Frame
public import proofs.«01_k».proof.Proof.Gen.KernelQIdeal.Frame
public import proofs.«01_k».proof.Proof.Gen.ReferenceQIdeal.Run
public import proofs.«01_k».proof.Proof.Gen.KernelG.Frame
public import proofs.«01_k».proof.Proof.Gen.KernelGIdeal.Frame
public import proofs.«01_k».proof.Proof.Gen.ReferenceGIdeal.Run
public import proofs.«01_k».proof.Proof.Gen.KernelM.Frame
public import proofs.«01_k».proof.Proof.Gen.KernelMIdeal.Frame
public import proofs.«01_k».proof.Proof.Gen.ReferenceMIdeal.Run
public import proofs.«01_k».proof.Proof.Gen.KernelN.Frame
public import proofs.«01_k».proof.Proof.Gen.KernelNIdeal.Frame
public import proofs.«01_k».proof.Proof.Gen.ReferenceNIdeal.Run
public import proofs.«01_k».proof.Proof.Gen.KernelB.Frame
public import proofs.«01_k».proof.Proof.Gen.KernelBIdeal.Frame
public import proofs.«01_k».proof.Proof.Gen.ReferenceBIdeal.Run
public import proofs.«01_k».proof.Proof.OutFrame
public import proofs.«01_k».proof.Proof.Gen.ReferenceOIdeal.Run
public import proofs.«01_k».proof.Proof.Gen.KernelD.Frame
public import proofs.«01_k».proof.Proof.Gen.KernelDIdeal.Frame
public import proofs.«01_k».proof.Proof.Gen.ReferenceDIdeal.Run
public import proofs.«01_k».proof.Proof.Gen.KernelC.Frame
public import proofs.«01_k».proof.Proof.Gen.KernelCIdeal.Frame
public import proofs.«01_k».proof.Proof.Gen.ReferenceCIdeal.Run
public import proofs.«01_k».proof.Proof.RecFrame
public import proofs.«01_k».proof.Proof.ClaimA
public import proofs.«01_k».proof.Proof.ClaimU
public import proofs.«01_k».proof.Proof.ClaimQ
public import proofs.«01_k».proof.Proof.ClaimG
public import proofs.«01_k».proof.Proof.ClaimM
public import proofs.«01_k».proof.Proof.ClaimN
public import proofs.«01_k».proof.Proof.ClaimB
public import proofs.«01_k».proof.Proof.ClaimO
public import proofs.«01_k».proof.Proof.ClaimD
public import proofs.«01_k».proof.Proof.ClaimC
public import proofs.«01_k».proof.Proof.Gen.Pre_finite_scores
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference `ReferenceIdeal` leaves its arguments unchanged; it declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference `ReferenceUIdeal` leaves its arguments unchanged; it declares no semaphore. -/
theorem frame_reference_u : Cert.quiescent_ReferenceUIdeal := fun m ρ _ =>
  (θ_run Cert.ReferenceUIdeal.defs _ _).mono (fun r h => ⟨fun c => (h c).2.2,
      Idealize.ShloMosaic.sem_eq_zero_of_no_sems (by decide) r.2⟩)
    (Cert.ReferenceUIdeal.Value.run (F := Ideal) m ρ)

/-- The reference `ReferenceQIdeal` leaves its arguments unchanged; it declares no semaphore. -/
theorem frame_reference_q : Cert.quiescent_ReferenceQIdeal := fun m ρ _ =>
  (θ_run Cert.ReferenceQIdeal.defs _ _).mono (fun r h => ⟨fun c => (h c).2.2,
      Idealize.ShloMosaic.sem_eq_zero_of_no_sems (by decide) r.2⟩)
    (Cert.ReferenceQIdeal.Value.run (F := Ideal) m ρ)

/-- The reference `ReferenceGIdeal` leaves its arguments unchanged; it declares no semaphore. -/
theorem frame_reference_g : Cert.quiescent_ReferenceGIdeal := fun m ρ _ =>
  (θ_run Cert.ReferenceGIdeal.defs _ _).mono (fun r h => ⟨fun c => (h c).2.2,
      Idealize.ShloMosaic.sem_eq_zero_of_no_sems (by decide) r.2⟩)
    (Cert.ReferenceGIdeal.Value.run (F := Ideal) m ρ)

/-- The reference `ReferenceMIdeal` leaves its arguments unchanged; it declares no semaphore. -/
theorem frame_reference_m : Cert.quiescent_ReferenceMIdeal := fun m ρ _ =>
  (θ_run Cert.ReferenceMIdeal.defs _ _).mono (fun r h => ⟨fun c => (h c).2.2,
      Idealize.ShloMosaic.sem_eq_zero_of_no_sems (by decide) r.2⟩)
    (Cert.ReferenceMIdeal.Value.run (F := Ideal) m ρ)

/-- The reference `ReferenceNIdeal` leaves its arguments unchanged; it declares no semaphore. -/
theorem frame_reference_n : Cert.quiescent_ReferenceNIdeal := fun m ρ _ =>
  (θ_run Cert.ReferenceNIdeal.defs _ _).mono (fun r h => ⟨fun c => (h c).2.2.2,
      Idealize.ShloMosaic.sem_eq_zero_of_no_sems (by decide) r.2⟩)
    (Cert.ReferenceNIdeal.Value.run (F := Ideal) m ρ)

/-- The reference `ReferenceBIdeal` leaves its arguments unchanged; it declares no semaphore. -/
theorem frame_reference_b : Cert.quiescent_ReferenceBIdeal := fun m ρ _ =>
  (θ_run Cert.ReferenceBIdeal.defs _ _).mono (fun r h => ⟨fun c => (h c).2,
      Idealize.ShloMosaic.sem_eq_zero_of_no_sems (by decide) r.2⟩)
    (Cert.ReferenceBIdeal.Value.run (F := Ideal) m ρ)

/-- The reference `ReferenceOIdeal` leaves its arguments unchanged; it declares no semaphore. -/
theorem frame_reference_o : Cert.quiescent_ReferenceOIdeal := fun m ρ _ =>
  (θ_run Cert.ReferenceOIdeal.defs _ _).mono (fun r h => ⟨fun c => (h c).2,
      Idealize.ShloMosaic.sem_eq_zero_of_no_sems (by decide) r.2⟩)
    (Cert.ReferenceOIdeal.Value.run (F := Ideal) m ρ)

/-- The reference `ReferenceDIdeal` leaves its arguments unchanged; it declares no semaphore. -/
theorem frame_reference_d : Cert.quiescent_ReferenceDIdeal := fun m ρ _ =>
  (θ_run Cert.ReferenceDIdeal.defs _ _).mono (fun r h => ⟨fun c => (h c).2,
      Idealize.ShloMosaic.sem_eq_zero_of_no_sems (by decide) r.2⟩)
    (Cert.ReferenceDIdeal.Value.run (F := Ideal) m ρ)

/-- The reference `ReferenceCIdeal` leaves its arguments unchanged; it declares no semaphore. -/
theorem frame_reference_c : Cert.quiescent_ReferenceCIdeal := fun m ρ _ =>
  (θ_run Cert.ReferenceCIdeal.defs _ _).mono (fun r h => ⟨fun c => (h c).2,
      Idealize.ShloMosaic.sem_eq_zero_of_no_sems (by decide) r.2⟩)
    (Cert.ReferenceCIdeal.Value.run (F := Ideal) m ρ)

/-- All claims. -/
theorem claim : Cert.Claim :=
  ⟨Cert.Kernel.Gen.facts,
    Cert.KernelIdeal.Gen.facts,
    Cert.ReferenceIdeal.Gen.facts,
    Cert.KernelU.Gen.facts,
    Cert.KernelUIdeal.Gen.facts,
    Cert.ReferenceUIdeal.Gen.facts,
    Cert.KernelQ.Gen.facts,
    Cert.KernelQIdeal.Gen.facts,
    Cert.ReferenceQIdeal.Gen.facts,
    Cert.KernelG.Gen.facts,
    Cert.KernelGIdeal.Gen.facts,
    Cert.ReferenceGIdeal.Gen.facts,
    Cert.KernelM.Gen.facts,
    Cert.KernelMIdeal.Gen.facts,
    Cert.ReferenceMIdeal.Gen.facts,
    Cert.KernelN.Gen.facts,
    Cert.KernelNIdeal.Gen.facts,
    Cert.ReferenceNIdeal.Gen.facts,
    Cert.KernelB.Gen.facts,
    Cert.KernelBIdeal.Gen.facts,
    Cert.ReferenceBIdeal.Gen.facts,
    Cert.KernelO.Gen.facts,
    Cert.KernelOIdeal.Gen.facts,
    Cert.ReferenceOIdeal.Gen.facts,
    Cert.KernelD.Gen.facts,
    Cert.KernelDIdeal.Gen.facts,
    Cert.ReferenceDIdeal.Gen.facts,
    Cert.KernelC.Gen.facts,
    Cert.KernelCIdeal.Gen.facts,
    Cert.ReferenceCIdeal.Gen.facts,
    Cert.KernelL.Gen.facts,
    Cert.KernelLIdeal.Gen.facts,
    Cert.Pre_finite_scores.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.KernelU.Gen.frame m ρ,
    fun m ρ _ => Cert.KernelUIdeal.Gen.frame m ρ,
    frame_reference_u,
    fun m ρ _ => Cert.KernelQ.Gen.frame m ρ,
    fun m ρ _ => Cert.KernelQIdeal.Gen.frame m ρ,
    frame_reference_q,
    fun m ρ _ => Cert.KernelG.Gen.frame m ρ,
    fun m ρ _ => Cert.KernelGIdeal.Gen.frame m ρ,
    frame_reference_g,
    fun m ρ _ => Cert.KernelM.Gen.frame m ρ,
    fun m ρ _ => Cert.KernelMIdeal.Gen.frame m ρ,
    frame_reference_m,
    fun m ρ _ => Cert.KernelN.Gen.frame m ρ,
    fun m ρ _ => Cert.KernelNIdeal.Gen.frame m ρ,
    frame_reference_n,
    fun m ρ _ => Cert.KernelB.Gen.frame m ρ,
    fun m ρ _ => Cert.KernelBIdeal.Gen.frame m ρ,
    frame_reference_b,
    frame_kernel_o,
    frame_kernelIdeal_o,
    frame_reference_o,
    fun m ρ _ => Cert.KernelD.Gen.frame m ρ,
    fun m ρ _ => Cert.KernelDIdeal.Gen.frame m ρ,
    frame_reference_d,
    fun m ρ _ => Cert.KernelC.Gen.frame m ρ,
    fun m ρ _ => Cert.KernelCIdeal.Gen.frame m ρ,
    frame_reference_c,
    frame_kernel_l,
    frame_kernelIdeal_l,
    trivial,
    algebraic_a,
    trivial,
    algebraic_u,
    trivial,
    algebraic_q,
    trivial,
    algebraic_g,
    trivial,
    algebraic_m,
    trivial,
    algebraic_n,
    trivial,
    algebraic_b,
    trivial,
    algebraic_o,
    trivial,
    algebraic_d,
    trivial,
    algebraic_c,
    trivial⟩

end Cert.Proof

end
